-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S_ : Shape := ⟨0, ![]⟩
abbrev S32 : Shape := ⟨1, ![32]⟩
abbrev S4096x256 : Shape := ⟨2, ![4096, 256]⟩
abbrev S128x256 : Shape := ⟨2, ![128, 256]⟩

abbrev nBuf : Space → Nat
  | .hbm => 16
  | .vmem => 7
  | .smem => 3
  | _ => 0

abbrev bufTy : (tb : Table) → Fin (tcTables nBuf tb) → BufTy
  | .hbm, ⟨0, _⟩ => ⟨S128x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S4096x256, .f32⟩
  | .local _ .vmem, ⟨0, _⟩ => ⟨S128x4096, .fp8e4m3⟩
  | .local _ .vmem, ⟨1, _⟩ => ⟨S4096x256, .fp8e4m3⟩
  | .local _ .vmem, ⟨2, _⟩ => ⟨S4096x256, .fp8e4m3⟩
  | .local _ .vmem, ⟨3, _⟩ => ⟨S4096x256, .f32⟩
  | .local _ .vmem, ⟨4, _⟩ => ⟨S128x4096, .fp8e4m3⟩
  | .local _ .vmem, ⟨5, _⟩ => ⟨S4096x256, .bf16⟩
  | .local _ .vmem, ⟨6, _⟩ => ⟨S4096x256, .bf16⟩
  | .local _ .smem, ⟨0, _⟩ => ⟨S32, .i32⟩
  | .local _ .smem, ⟨1, _⟩ => ⟨S1, .f32⟩
  | .local _ .smem, ⟨2, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v10 : Ref sig .tc := ⟨.hbm, 15, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier1 : Sem sig := 0

abbrev nD : Nat := 32
abbrev τ : Topo := Topo.v7x

variable {F : FTy → Type} [FloatOps F]

abbrev grid0 : Pipeline.Grid := ⟨1, ![32], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v30 : BitVec 32 := Scalar.addi v2 c1_i32_15
  let c32_i32_16 : BitVec 32 := 32#32
  let v31 : BitVec 32 := Scalar.remsi v30 c32_i32_16
  let c1_i32_18 : BitVec 32 := 1#32
  let v32 : BitVec 32 := Scalar.muli v31 c1_i32_18
  let v33 : BitVec 32 := Scalar.addi c0_i32_19 v32
  v33.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v34 : BitVec 32 := Scalar.addi v2 c2_i32
  let c32_i32_20 : BitVec 32 := 32#32
  let v35 : BitVec 32 := Scalar.remsi v34 c32_i32_20
  let c1_i32_22 : BitVec 32 := 1#32
  let v36 : BitVec 32 := Scalar.muli v35 c1_i32_22
  let v37 : BitVec 32 := Scalar.addi c0_i32_23 v36
  v37.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v38 : BitVec 32 := Scalar.addi v2 c3_i32
  let c32_i32_24 : BitVec 32 := 32#32
  let v39 : BitVec 32 := Scalar.remsi v38 c32_i32_24
  let c1_i32_26 : BitVec 32 := 1#32
  let v40 : BitVec 32 := Scalar.muli v39 c1_i32_26
  let v41 : BitVec 32 := Scalar.addi c0_i32_27 v40
  v41.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v42 : BitVec 32 := Scalar.addi v2 c4_i32
  let c32_i32_28 : BitVec 32 := 32#32
  let v43 : BitVec 32 := Scalar.remsi v42 c32_i32_28
  let c1_i32_30 : BitVec 32 := 1#32
  let v44 : BitVec 32 := Scalar.muli v43 c1_i32_30
  let v45 : BitVec 32 := Scalar.addi c0_i32_31 v44
  v45.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v46 : BitVec 32 := Scalar.addi v2 c5_i32
  let c32_i32_32 : BitVec 32 := 32#32
  let v47 : BitVec 32 := Scalar.remsi v46 c32_i32_32
  let c1_i32_34 : BitVec 32 := 1#32
  let v48 : BitVec 32 := Scalar.muli v47 c1_i32_34
  let v49 : BitVec 32 := Scalar.addi c0_i32_35 v48
  v49.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v50 : BitVec 32 := Scalar.addi v2 c6_i32
  let c32_i32_36 : BitVec 32 := 32#32
  let v51 : BitVec 32 := Scalar.remsi v50 c32_i32_36
  let c1_i32_38 : BitVec 32 := 1#32
  let v52 : BitVec 32 := Scalar.muli v51 c1_i32_38
  let v53 : BitVec 32 := Scalar.addi c0_i32_39 v52
  v53.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v54 : BitVec 32 := Scalar.addi v2 c7_i32
  let c32_i32_40 : BitVec 32 := 32#32
  let v55 : BitVec 32 := Scalar.remsi v54 c32_i32_40
  let c1_i32_42 : BitVec 32 := 1#32
  let v56 : BitVec 32 := Scalar.muli v55 c1_i32_42
  let v57 : BitVec 32 := Scalar.addi c0_i32_43 v56
  v57.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v58 : BitVec 32 := Scalar.addi v2 c8_i32
  let c32_i32_44 : BitVec 32 := 32#32
  let v59 : BitVec 32 := Scalar.remsi v58 c32_i32_44
  let c1_i32_46 : BitVec 32 := 1#32
  let v60 : BitVec 32 := Scalar.muli v59 c1_i32_46
  let v61 : BitVec 32 := Scalar.addi c0_i32_47 v60
  v61.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v62 : BitVec 32 := Scalar.addi v2 c9_i32
  let c32_i32_48 : BitVec 32 := 32#32
  let v63 : BitVec 32 := Scalar.remsi v62 c32_i32_48
  let c1_i32_50 : BitVec 32 := 1#32
  let v64 : BitVec 32 := Scalar.muli v63 c1_i32_50
  let v65 : BitVec 32 := Scalar.addi c0_i32_51 v64
  v65.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v66 : BitVec 32 := Scalar.addi v2 c10_i32
  let c32_i32_52 : BitVec 32 := 32#32
  let v67 : BitVec 32 := Scalar.remsi v66 c32_i32_52
  let c1_i32_54 : BitVec 32 := 1#32
  let v68 : BitVec 32 := Scalar.muli v67 c1_i32_54
  let v69 : BitVec 32 := Scalar.addi c0_i32_55 v68
  v69.toNat
def k0_dev11 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v70 : BitVec 32 := Scalar.addi v2 c11_i32
  let c32_i32_56 : BitVec 32 := 32#32
  let v71 : BitVec 32 := Scalar.remsi v70 c32_i32_56
  let c1_i32_58 : BitVec 32 := 1#32
  let v72 : BitVec 32 := Scalar.muli v71 c1_i32_58
  let v73 : BitVec 32 := Scalar.addi c0_i32_59 v72
  v73.toNat
def k0_dev12 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v74 : BitVec 32 := Scalar.addi v2 c12_i32
  let c32_i32_60 : BitVec 32 := 32#32
  let v75 : BitVec 32 := Scalar.remsi v74 c32_i32_60
  let c1_i32_62 : BitVec 32 := 1#32
  let v76 : BitVec 32 := Scalar.muli v75 c1_i32_62
  let v77 : BitVec 32 := Scalar.addi c0_i32_63 v76
  v77.toNat
def k0_dev13 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v78 : BitVec 32 := Scalar.addi v2 c13_i32
  let c32_i32_64 : BitVec 32 := 32#32
  let v79 : BitVec 32 := Scalar.remsi v78 c32_i32_64
  let c1_i32_66 : BitVec 32 := 1#32
  let v80 : BitVec 32 := Scalar.muli v79 c1_i32_66
  let v81 : BitVec 32 := Scalar.addi c0_i32_67 v80
  v81.toNat
def k0_dev14 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v82 : BitVec 32 := Scalar.addi v2 c14_i32
  let c32_i32_68 : BitVec 32 := 32#32
  let v83 : BitVec 32 := Scalar.remsi v82 c32_i32_68
  let c1_i32_70 : BitVec 32 := 1#32
  let v84 : BitVec 32 := Scalar.muli v83 c1_i32_70
  let v85 : BitVec 32 := Scalar.addi c0_i32_71 v84
  v85.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v86 : BitVec 32 := Scalar.addi v2 c15_i32
  let c32_i32_72 : BitVec 32 := 32#32
  let v87 : BitVec 32 := Scalar.remsi v86 c32_i32_72
  let c1_i32_74 : BitVec 32 := 1#32
  let v88 : BitVec 32 := Scalar.muli v87 c1_i32_74
  let v89 : BitVec 32 := Scalar.addi c0_i32_75 v88
  v89.toNat
def k0_dev16 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v90 : BitVec 32 := Scalar.addi v2 c16_i32
  let c32_i32_76 : BitVec 32 := 32#32
  let v91 : BitVec 32 := Scalar.remsi v90 c32_i32_76
  let c1_i32_78 : BitVec 32 := 1#32
  let v92 : BitVec 32 := Scalar.muli v91 c1_i32_78
  let v93 : BitVec 32 := Scalar.addi c0_i32_79 v92
  v93.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v94 : BitVec 32 := Scalar.addi v2 c17_i32
  let c32_i32_80 : BitVec 32 := 32#32
  let v95 : BitVec 32 := Scalar.remsi v94 c32_i32_80
  let c1_i32_82 : BitVec 32 := 1#32
  let v96 : BitVec 32 := Scalar.muli v95 c1_i32_82
  let v97 : BitVec 32 := Scalar.addi c0_i32_83 v96
  v97.toNat
def k0_dev18 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v98 : BitVec 32 := Scalar.addi v2 c18_i32
  let c32_i32_84 : BitVec 32 := 32#32
  let v99 : BitVec 32 := Scalar.remsi v98 c32_i32_84
  let c1_i32_86 : BitVec 32 := 1#32
  let v100 : BitVec 32 := Scalar.muli v99 c1_i32_86
  let v101 : BitVec 32 := Scalar.addi c0_i32_87 v100
  v101.toNat
def k0_dev19 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v102 : BitVec 32 := Scalar.addi v2 c19_i32
  let c32_i32_88 : BitVec 32 := 32#32
  let v103 : BitVec 32 := Scalar.remsi v102 c32_i32_88
  let c1_i32_90 : BitVec 32 := 1#32
  let v104 : BitVec 32 := Scalar.muli v103 c1_i32_90
  let v105 : BitVec 32 := Scalar.addi c0_i32_91 v104
  v105.toNat
def k0_dev20 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v106 : BitVec 32 := Scalar.addi v2 c20_i32
  let c32_i32_92 : BitVec 32 := 32#32
  let v107 : BitVec 32 := Scalar.remsi v106 c32_i32_92
  let c1_i32_94 : BitVec 32 := 1#32
  let v108 : BitVec 32 := Scalar.muli v107 c1_i32_94
  let v109 : BitVec 32 := Scalar.addi c0_i32_95 v108
  v109.toNat
def k0_dev21 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v110 : BitVec 32 := Scalar.addi v2 c21_i32
  let c32_i32_96 : BitVec 32 := 32#32
  let v111 : BitVec 32 := Scalar.remsi v110 c32_i32_96
  let c1_i32_98 : BitVec 32 := 1#32
  let v112 : BitVec 32 := Scalar.muli v111 c1_i32_98
  let v113 : BitVec 32 := Scalar.addi c0_i32_99 v112
  v113.toNat
def k0_dev22 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v114 : BitVec 32 := Scalar.addi v2 c22_i32
  let c32_i32_100 : BitVec 32 := 32#32
  let v115 : BitVec 32 := Scalar.remsi v114 c32_i32_100
  let c1_i32_102 : BitVec 32 := 1#32
  let v116 : BitVec 32 := Scalar.muli v115 c1_i32_102
  let v117 : BitVec 32 := Scalar.addi c0_i32_103 v116
  v117.toNat
def k0_dev23 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v118 : BitVec 32 := Scalar.addi v2 c23_i32
  let c32_i32_104 : BitVec 32 := 32#32
  let v119 : BitVec 32 := Scalar.remsi v118 c32_i32_104
  let c1_i32_106 : BitVec 32 := 1#32
  let v120 : BitVec 32 := Scalar.muli v119 c1_i32_106
  let v121 : BitVec 32 := Scalar.addi c0_i32_107 v120
  v121.toNat
def k0_dev24 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v122 : BitVec 32 := Scalar.addi v2 c24_i32
  let c32_i32_108 : BitVec 32 := 32#32
  let v123 : BitVec 32 := Scalar.remsi v122 c32_i32_108
  let c1_i32_110 : BitVec 32 := 1#32
  let v124 : BitVec 32 := Scalar.muli v123 c1_i32_110
  let v125 : BitVec 32 := Scalar.addi c0_i32_111 v124
  v125.toNat
def k0_dev25 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v126 : BitVec 32 := Scalar.addi v2 c25_i32
  let c32_i32_112 : BitVec 32 := 32#32
  let v127 : BitVec 32 := Scalar.remsi v126 c32_i32_112
  let c1_i32_114 : BitVec 32 := 1#32
  let v128 : BitVec 32 := Scalar.muli v127 c1_i32_114
  let v129 : BitVec 32 := Scalar.addi c0_i32_115 v128
  v129.toNat
def k0_dev26 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v130 : BitVec 32 := Scalar.addi v2 c26_i32
  let c32_i32_116 : BitVec 32 := 32#32
  let v131 : BitVec 32 := Scalar.remsi v130 c32_i32_116
  let c1_i32_118 : BitVec 32 := 1#32
  let v132 : BitVec 32 := Scalar.muli v131 c1_i32_118
  let v133 : BitVec 32 := Scalar.addi c0_i32_119 v132
  v133.toNat
def k0_dev27 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v134 : BitVec 32 := Scalar.addi v2 c27_i32
  let c32_i32_120 : BitVec 32 := 32#32
  let v135 : BitVec 32 := Scalar.remsi v134 c32_i32_120
  let c1_i32_122 : BitVec 32 := 1#32
  let v136 : BitVec 32 := Scalar.muli v135 c1_i32_122
  let v137 : BitVec 32 := Scalar.addi c0_i32_123 v136
  v137.toNat
def k0_dev28 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v138 : BitVec 32 := Scalar.addi v2 c28_i32
  let c32_i32_124 : BitVec 32 := 32#32
  let v139 : BitVec 32 := Scalar.remsi v138 c32_i32_124
  let c1_i32_126 : BitVec 32 := 1#32
  let v140 : BitVec 32 := Scalar.muli v139 c1_i32_126
  let v141 : BitVec 32 := Scalar.addi c0_i32_127 v140
  v141.toNat
def k0_dev29 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v142 : BitVec 32 := Scalar.addi v2 c29_i32
  let c32_i32_128 : BitVec 32 := 32#32
  let v143 : BitVec 32 := Scalar.remsi v142 c32_i32_128
  let c1_i32_130 : BitVec 32 := 1#32
  let v144 : BitVec 32 := Scalar.muli v143 c1_i32_130
  let v145 : BitVec 32 := Scalar.addi c0_i32_131 v144
  v145.toNat
def k0_dev30 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v146 : BitVec 32 := Scalar.addi v2 c30_i32
  let c32_i32_132 : BitVec 32 := 32#32
  let v147 : BitVec 32 := Scalar.remsi v146 c32_i32_132
  let c1_i32_134 : BitVec 32 := 1#32
  let v148 : BitVec 32 := Scalar.muli v147 c1_i32_134
  let v149 : BitVec 32 := Scalar.addi c0_i32_135 v148
  v149.toNat
def k0_dev31 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_136 : BitVec 32 := 31#32
  let v150 : BitVec 32 := Scalar.addi v2 c31_i32_136
  let c32_i32_137 : BitVec 32 := 32#32
  let v151 : BitVec 32 := Scalar.remsi v150 c32_i32_137
  let c1_i32_139 : BitVec 32 := 1#32
  let v152 : BitVec 32 := Scalar.muli v151 c1_i32_139
  let v153 : BitVec 32 := Scalar.addi c0_i32_140 v152
  v153.toNat
def k0_cond2 (i : grid0.Coords) : BitVec 1 :=
  let arg0 : BitVec 32 := BitVec.ofNat 32 (i 0).val
  let c0_i32_6 : BitVec 32 := 0#32
  let v15 : BitVec 1 := Scalar.cmpi .eq arg0 c0_i32_6
  let v16 : BitVec 32 := Scalar.extui v15
  let c0_i32_7 : BitVec 32 := 0#32
  let v17 : BitVec 1 := Scalar.cmpi .ne v16 c0_i32_7
  v17

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v24 : BitVec 32 := Scalar.muli v2 c128_i32
  let v25 : Index := Scalar.indexCast v24
  let c0_11 : Index := 0#32
  ![v25.toNat, 0]
def k0_cond3 (i : grid0.Coords) : BitVec 1 :=
  let arg0 : BitVec 32 := BitVec.ofNat 32 (i 0).val
  let c0_i32_8 : BitVec 32 := 0#32
  let v18 : BitVec 1 := Scalar.cmpi .ne arg0 c0_i32_8
  let v19 : BitVec 32 := Scalar.extui v18
  let c0_i32_9 : BitVec 32 := 0#32
  let v20 : BitVec 1 := Scalar.cmpi .ne v19 c0_i32_9
  v20

def k0_off3 (i : grid0.Coords) : Fin 2 → Nat :=
  let arg0 : BitVec 32 := BitVec.ofNat 32 (i 0).val
  let c128_i32 : BitVec 32 := 128#32
  let v25 : BitVec 32 := Scalar.muli arg0 c128_i32
  let v26 : Index := Scalar.indexCast v25
  let c0_11 : Index := 0#32
  ![v26.toNat, 0]
def k0_off4 (i : grid0.Coords) : Fin 1 → Nat :=
  let arg0 : BitVec 32 := BitVec.ofNat 32 (i 0).val
  let v32 : Index := Scalar.indexCast arg0
  ![v32.toNat]
def k0_off5 (i : grid0.Coords) : Fin 1 → Nat :=
  let arg0 : BitVec 32 := BitVec.ofNat 32 (i 0).val
  ![arg0.toNat]
def k0_off6 (i : grid0.Coords) : Fin 2 → Nat :=
  let arg0 : BitVec 32 := BitVec.ofNat 32 (i 0).val
  let c128_i32_13 : BitVec 32 := 128#32
  let v31 : BitVec 32 := Scalar.muli arg0 c128_i32_13
  let c0_i32_16 : BitVec 32 := 0#32
  ![v31.toNat, 0]
def k0_dev32 (v33 : BitVec 32) : Nat :=
  let c0_i32_15 : BitVec 32 := 0#32
  let c1_i32_14 : BitVec 32 := 1#32
  let v34 : BitVec 32 := Scalar.muli v33 c1_i32_14
  let v35 : BitVec 32 := Scalar.addi c0_i32_15 v34
  v35.toNat

def k0_chk1 (i : grid0.Coords) (v33 : BitVec 32) : Prop :=
  (∀ (k0_h3 : k0_cond3 i = 1#1), (k0_dev32 v33) < nD)
theorem k0_dev32_lt : ∀ (i : grid0.Coords) (v33 : BitVec 32) (k0_hw1 : k0_chk1 i v33), ∀ (k0_h3 : k0_cond3 i = 1#1), (k0_dev32 v33) < nD := fun i v33 k0_hw1 k0_h3 => k0_hw1 k0_h3

def k0_cond4 (i : grid0.Coords) : BitVec 1 :=
  let arg0 : BitVec 32 := BitVec.ofNat 32 (i 0).val
  let c31_i32 : BitVec 32 := 31#32
  let v21 : BitVec 1 := Scalar.cmpi .eq arg0 c31_i32
  let v22 : BitVec 32 := Scalar.extui v21
  let c0_i32_10 : BitVec 32 := 0#32
  let v23 : BitVec 1 := Scalar.cmpi .ne v22 c0_i32_10
  v23

def k0_off7 (d0 : Dev nD) (c1_i32_25 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v35 : BitVec 32 := Scalar.subi v2 c1_i32_25
  let c32_i32_26 : BitVec 32 := 32#32
  let v36 : BitVec 32 := Scalar.addi v35 c32_i32_26
  let c32_i32_27 : BitVec 32 := 32#32
  let v37 : BitVec 32 := Scalar.remsi v36 c32_i32_27
  let c128_i32_29 : BitVec 32 := 128#32
  let v40 : BitVec 32 := Scalar.muli v37 c128_i32_29
  let v41 : Index := Scalar.indexCast v40
  let c0_30 : Index := 0#32
  ![v41.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Table.lean ====
/-
The table the host builds before the region: entry `d` of device `c`'s is `(c + d) mod 32`.
-/
module

public import proofs.«01_k».proof.Proof.K.Deal
public import proofs.«01_k».proof.Proof.Gen.Kernel.Regions

@[expose] public section

noncomputable section

namespace Cert.Kernel.Run

open Cert.Kernel Cert.Kernel.Gen

open Idealize.ShloMosaic
open Idealize.ShloMosaic.TcCoe

variable {F : FTy → Type} [FloatOps F]

variable (m : (ℓ : Loc nD τ sig) → Buf (Elt F) ℓ)

/-- One entry's arithmetic. -/
def entryW (c d : Fin 32) : BitVec 32 :=
  IntOp.remsi .host (IntOp.remui .host (IntOp.divui .host (BitVec.ofNat 32 c.val) 1#32) 32#32 + BitVec.ofNat 32 d.val) 32#32

theorem entryW_eq : ∀ c d : Fin 32, entryW c d = BitVec.ofNat 32 ((c.val + d.val) % 32) := by decide +kernel

theorem table_eq (c : Dev nD) : Gen.V1 m c main_v9 = tabOf (F := F) c := by
  show StableHlo.after (Gen.hostOps0 c) (Gen.V0 m c) (Proc.devRef .tc main_v9) = _
  after_results
  funext d
  exact entryW_eq c (d (0 : Fin 1))

end Cert.Kernel.Run

end
-- ==== Proof.KI.Mesh.lean ====
/-
The ring of devices, the cells and the slabs of the fused matrix product and all-to-all.

Slot `k` (1 ≤ k < 32) of device `c` is the piece of `c`'s product that goes to device `c + k`; it leaves from row slab
`k` of `c`'s scratch `comm` and lands in row slab `k` of the peer's scratch `rbuf`. The slots are numbered here by
`r : Fin 31`, slot `r.succ`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Rounds
public import Idealize.ShloMosaic.Lib.Rounds.Family
public import Idealize.ShloMosaic.Lib.Scf
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `r + 1` places after `c`. -/
def peer (c : Dev nD) (r : Fin 31) : Dev nD := ⟨(c.val + (r.val + 1)) % 32, Nat.mod_lt _ (by decide)⟩

set_option backward.proofsInPublic true in
/-- The device `k` places before `c`. -/
def back (c : Dev nD) (k : Fin 32) : Dev nD := ⟨(c.val + (32 - k.val)) % 32, Nat.mod_lt _ (by decide)⟩

theorem peer_rev (c : Dev nD) (r : Fin 31) : peer (peer c r) r.rev = c := by
  apply Fin.ext; show ((c.val + (r.val + 1)) % 32 + (r.rev.val + 1)) % 32 = c.val
  have hc : c.val < 32 := c.isLt
  have := r.isLt; rw [Fin.val_rev]; omega

theorem rev_peer (c : Dev nD) (r : Fin 31) : peer (peer c r.rev) r = c := by
  have h := peer_rev c r.rev; rwa [Fin.rev_rev] at h

theorem back_peer (c : Dev nD) (r : Fin 31) : back (peer c r) r.succ = c := by
  apply Fin.ext; show ((c.val + (r.val + 1)) % 32 + (32 - r.succ.val)) % 32 = c.val
  have hc : c.val < 32 := c.isLt
  have := r.isLt; rw [Fin.val_succ]; omega

theorem peer_back (c : Dev nD) (r : Fin 31) : peer (back c r.succ) r = c := by
  apply Fin.ext; show ((c.val + (32 - r.succ.val)) % 32 + (r.val + 1)) % 32 = c.val
  have hc : c.val < 32 := c.isLt
  have := r.isLt; rw [Fin.val_succ]; omega

theorem peer_rev_eq_back (c : Dev nD) (r : Fin 31) : peer c r.rev = back c r.succ := by
  apply Fin.ext; show (c.val + (r.rev.val + 1)) % 32 = (c.val + (32 - r.succ.val)) % 32
  rw [Fin.val_rev, Fin.val_succ]; have := r.isLt; congr 2; omega

/-- Going `r + 1` places on is one to one. -/
def hop (r : Fin 31) : Dev nD ≃ Dev nD := ⟨(peer · r), (peer · r.rev), fun c => peer_rev c r, fun c => rev_peer c r⟩

/-! ## The slabs -/

theorem slab_inb (k : Fin 32) : ∀ a : Fin S4096x256.rank, (![128 * k.val, 0] : Fin 2 → ℕ) a + S128x256.size a ≤ S4096x256.size a := by
  revert k; decide

set_option backward.proofsInPublic true in
/-- The rows `128 k … 128 k + 127` of a 4096 × 256 buffer. -/
abbrev slabR (k : Fin 32) : Rect S4096x256 := Rect.unit (s := S4096x256) ![128 * k.val, 0] S128x256.size (slab_inb k)

theorem slabR_stride (k : Fin 32) (a : Fin S4096x256.rank) : (slabR k).stride a = 1 := rfl

theorem slabR_emb_row (k : Fin 32) (j : (slabR k).shape.Idx) : ((slabR k).emb j (0 : Fin 2)).val = 128 * k.val + (j (0 : Fin 2)).val := by
  rw [Rect.emb_apply]; show 128 * k.val + 1 * (j (0 : Fin 2)).val = _; omega

theorem slabR_emb_col (k : Fin 32) (j : (slabR k).shape.Idx) : ((slabR k).emb j (1 : Fin 2)).val = (j (1 : Fin 2)).val := by
  rw [Rect.emb_apply]; show 0 + 1 * (j (1 : Fin 2)).val = _; omega

/-- A row is in slab `k` when its quotient by 128 is `k`. -/
theorem mem_slabR (k : Fin 32) (x : S4096x256.Idx) : x ∈ (slabR k).set ↔ (x (0 : Fin 2)).val / 128 = k.val := by
  rw [← Rect.map_emb_univ, Finset.mem_map]
  constructor
  · rintro ⟨j, -, rfl⟩
    rw [slabR_emb_row]; have : (j (0 : Fin 2)).val < 128 := (j (0 : Fin 2)).isLt; omega
  · intro h
    have h0 : (x (0 : Fin 2)).val < 4096 := (x (0 : Fin 2)).isLt
    have h1 : (x (1 : Fin 2)).val < 256 := (x (1 : Fin 2)).isLt
    refine ⟨fun a => match a with
      | ⟨0, _⟩ => ⟨(x (0 : Fin 2)).val % 128, Nat.mod_lt _ (by decide)⟩
      | ⟨1, _⟩ => ⟨(x (1 : Fin 2)).val, h1⟩, Finset.mem_univ _, ?_⟩
    funext a
    apply Fin.ext
    match a with
    | ⟨0, _⟩ => exact (slabR_emb_row k _).trans (by show 128 * k.val + (x (0 : Fin 2)).val % 128 = (x (0 : Fin 2)).val; omega)
    | ⟨1, _⟩ => exact slabR_emb_col k _

theorem slabR_disjoint (k k' : Fin 32) (h : k ≠ k') : Disjoint (slabR k).set (slabR k').set := by
  rw [Finset.disjoint_left]; intro x hx hx'
  rw [mem_slabR] at hx hx'; exact h (Fin.ext (hx.symm.trans hx'))

theorem slabR_cover : (Finset.univ : Finset (Fin 32)).biUnion (fun k => (slabR k).set) = Finset.univ := by
  ext x; simp only [Finset.mem_biUnion, Finset.mem_univ, true_and, iff_true]
  have h0 : (x (0 : Fin 2)).val < 4096 := (x (0 : Fin 2)).isLt
  exact ⟨⟨(x (0 : Fin 2)).val / 128, by omega⟩, (mem_slabR _ x).mpr rfl⟩

abbrev commM : Memref sig .tc .vmem S4096x256 .bf16 := Memref.whole cc0_scratch1
abbrev rbufM : Memref sig .tc .vmem S4096x256 .bf16 := Memref.whole cc0_scratch2
abbrev xbufM : Memref sig .tc .vmem S128x4096 .fp8e4m3 := Memref.whole cc0_scratch0
abbrev commS (k : Fin 32) : Memref sig .tc .vmem S128x256 .bf16 := commM.slice (slabR k) (slabR_stride k)
abbrev rbufS (k : Fin 32) : Memref sig .tc .vmem S128x256 .bf16 := rbufM.slice (slabR k) (slabR_stride k)

/-! ## The cells -/

theorem slot_inb (k : Fin 32) : ∀ a : Fin S32.rank, (![k.val] : Fin 1 → ℕ) a + S1.size a ≤ S32.size a := by revert k; decide

set_option backward.proofsInPublic true in
abbrev slotR (k : Fin 32) : Rect S32 := Rect.unit (s := S32) ![k.val] S1.size (slot_inb k)

abbrev barS : Sem sig := (SemArray.scalar (sig.barrier 1 rfl) : Sems sig S_).sem
abbrev sendS (k : Fin 32) : DmaSem sig := ((cc0_scratch3.slice (slotR k)).squeeze S_ squeezes_S1_S_).sem
abbrev recvS (k : Fin 32) : DmaSem sig := ((cc0_scratch4.slice (slotR k)).squeeze S_ squeezes_S1_S_).sem

theorem sendS_val (k : Fin 32) : (sendS k).val = 6 + k.val := by revert k; decide
theorem recvS_val (k : Fin 32) : (recvS k).val = 38 + k.val := by revert k; decide

abbrev barCell (c : Dev nD) : GSem nD τ sig := ((c : Thread nD τ), .reg barS)
abbrev sendCell (c : Dev nD) (k : Fin 32) : GSem nD τ sig := ((c : Thread nD τ), .dma (sendS k))
abbrev recvCell (c : Dev nD) (k : Fin 32) : GSem nD τ sig := ((c : Thread nD τ), .dma (recvS k))

/-- The kernel's own DMA cells: the sends (`false`) and the receives (`true`). -/
def osem (x : Bool × Fin 32) : SemLoc sig := .dma (if x.1 then recvS x.2 else sendS x.2)

theorem ho : Pipeline.OwnSemFacts spec0 osem := by decide +kernel

end Cert.KernelIdeal.Run

end
-- ==== Proof.KI.Sched.lean ====
/-
What each device owes the others, and what is handed over with it.

At the barrier device `c` hears once from each of the other devices; the signal of `peer c r` hands `c` row slab
`r.succ` of that device's landing buffer, the slab `c` itself will fill. A transfer of slot `k` gives the sender its
slab of `comm` back and the receiver its slab of `rbuf` filled with the sender's piece of the product.
-/
module

public import proofs.«01_k».proof.Proof.KI.Mesh

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UP : Type := URounds (GSem nD τ sig) Unit
abbrev UK : Type := URounds (GSem nD τ sig) (Fin 31)
abbrev UU : Type := UP × UK

local notation "𝕄" => MT nD τ sig Unit (Elt F) ℕ UU ℕ

abbrev EP : Emb UP (MT nD τ sig Unit (Elt F) ℕ UU ℕ) := embL
abbrev ER : Emb UK (MT nD τ sig Unit (Elt F) ℕ UU ℕ) := embR

variable (m : (ℓ : Loc nD τ sig) → Buf (Elt F) ℓ)

/-! ## The contents -/

/-- Device `c`'s rows of the left factor. -/
def xOf (c : Dev nD) : Vec F S128x4096 .fp8e4m3 := m ((c : Thread nD τ).loc main_arg0)

set_option backward.proofsInPublic true in
theorem wcol_lt (c : Dev nD) (k : Fin 32) (j : S4096x256.Idx) : 256 * ((c.val + k.val) % 32) + (j (1 : Fin 2)).val < 8192 := by
  have : (j (1 : Fin 2)).val < 256 := (j (1 : Fin 2)).isLt
  omega

/-- The columns of the right factor that device `c` multiplies at grid point `k`: those of device `c + k`. -/
def wOf (c : Dev nD) (k : Fin 32) : Vec F S4096x256 .fp8e4m3 := fun j =>
  m ((c : Thread nD τ).loc main_arg1) fun a => match a with
    | ⟨0, _⟩ => j (0 : Fin 2)
    | ⟨1, _⟩ => ⟨256 * ((c.val + k.val) % 32) + (j (1 : Fin 2)).val, wcol_lt c k j⟩

/-- The two scales. -/
def sxOf (c : Dev nD) : Elt F .f32 := m ((c : Thread nD τ).loc main_arg2) (Shape.Idx.first (s := S1) (numel1_S1.symm ▸ Nat.one_pos))
def swOf (c : Dev nD) : Elt F .f32 := m ((c : Thread nD τ).loc main_arg3) (Shape.Idx.first (s := S1) (numel1_S1.symm ▸ Nat.one_pos))

/-- The piece of the product that stays on device `c`. -/
def ownPiece (c : Dev nD) : Vec F S128x256 .f32 := k0_pay1 (sxOf m c) (swOf m c) (xOf m c) (wOf m c 0)

/-- The piece device `c` sends at grid point `k`. -/
def wire (c : Dev nD) (k : Fin 32) : Vec F S128x256 .bf16 := k0_pay2 (sxOf m c) (swOf m c) (xOf m c) (wOf m c k)

/-! ## The schedule -/

abbrev N : ℕ := (rbufS 0 : Memref sig .tc .vmem S128x256 .bf16).view.dmaCredit
theorem N_pos : 0 < N := View.dmaCredit_pos _ (by decide)
theorem amount_rbuf (k : Fin 32) : (rbufS k : Memref sig .tc .vmem S128x256 .bf16).view.dmaCredit = N := by
  unfold N; rfl
theorem amount_comm (k : Fin 32) : (commS k : Memref sig .tc .vmem S128x256 .bf16).view.dmaCredit = N := by
  unfold N; rfl

/-- Row slab `k` of device `c`'s `comm`, at anything. -/
def commAny (c : Dev nD) (k : Fin 32) : sProp 𝕄 := iprop(∃ X, owns (c : Thread nD τ) (commS k) fullShare X)
/-- Row slab `k` of device `c`'s `rbuf`, at anything. -/
def rbufAny (c : Dev nD) (k : Fin 32) : sProp 𝕄 := iprop(∃ X, owns (c : Thread nD τ) (rbufS k) fullShare X)
/-- Row slab `k` of device `c`'s `rbuf`, filled by the device `k` places before. -/
def rbufFull (c : Dev nD) (k : Fin 32) : sProp 𝕄 := owns (c : Thread nD τ) (rbufS k) fullShare (wire m (back c k) k)
/-- What a barrier signal from `p` about slot `k` hands over. -/
def barPay (p : Dev nD) (k : Fin 32) : sProp 𝕄 := iprop(rbufAny p k ∗ reached ER (recvCell p k) 0)

instance commAny_storable (c : Dev nD) (k : Fin 32) : BI.Storable (upEmb : UEmb _ 𝕄) (commAny (F := F) c k) := by unfold commAny; infer_instance
instance rbufAny_storable (c : Dev nD) (k : Fin 32) : BI.Storable (upEmb : UEmb _ 𝕄) (rbufAny (F := F) c k) := by unfold rbufAny; infer_instance
instance rbufFull_storable (c : Dev nD) (k : Fin 32) : BI.Storable (upEmb : UEmb _ 𝕄) (rbufFull (F := F) m c k) := by unfold rbufFull; infer_instance
instance barPay_storable (c : Dev nD) (k : Fin 32) : BI.Storable (upEmb : UEmb _ 𝕄) (barPay (F := F) c k) := by unfold barPay; infer_instance

set_option backward.proofsInPublic true in
/-- The slot of a DMA semaphore of the kernel's own: the sends are the semaphores 6 to 37, the receives 38 to 69. -/
def slotOf (q : DmaSem sig) : Fin 32 := ⟨(q.val + 26) % 32, Nat.mod_lt _ (by decide)⟩

theorem slotOf_send (k : Fin 32) : slotOf (sendS k) = k := by
  apply Fin.ext; show ((sendS k).val + 26) % 32 = k.val; rw [sendS_val]; have := k.isLt; omega
theorem slotOf_recv (k : Fin 32) : slotOf (recvS k) = k := by
  apply Fin.ext; show ((recvS k).val + 26) % 32 = k.val; rw [recvS_val]; have := k.isLt; omega

/-- What duty `d` of a semaphore hands its owner. -/
def payOf (c : Dev nD) (d : Fin 31) : SemLoc sig → sProp 𝕄
  | .reg _ => barPay (peer c d) d.succ
  | .dma q => if q.val < 38 then commAny c (slotOf q) else rbufFull m c (slotOf q)

instance payOf_storable (c : Dev nD) (d : Fin 31) (s : SemLoc sig) : BI.Storable (upEmb : UEmb _ 𝕄) (payOf (F := F) m c d s) := by
  unfold payOf; split
  · infer_instance
  · split <;> infer_instance

/-- The duties of a semaphore: one a peer at the barrier, one a transfer. -/
def dutiesOf : SemLoc sig → Finset (Fin 31)
  | .reg s => if s = barS then Finset.univ else ∅
  | .dma q => if 6 ≤ q.val ∧ slotOf q ≠ 0 then {0} else ∅

def amountOf : SemLoc sig → ℕ
  | .reg _ => 1
  | .dma _ => N

def sched : Rounds.Schedule (GSem nD τ sig) (Fin 31) 𝕄 where
  duties g r := if r = 0 ∧ g.1.2 = .tc then dutiesOf g.2 else ∅
  unitless _ := False
  amount g _ _ := amountOf g.2
  payload g _ d := payOf m g.1.1 d g.2
  amount_pos g _ _ _ := by
    obtain ⟨t, s⟩ := g
    cases s
    · exact Nat.one_pos
    · exact N_pos

instance sched_storable (g : GSem nD τ sig) (r : ℕ) (d : Fin 31) : BI.Storable (upEmb : UEmb _ 𝕄) ((sched (F := F) m).payload g r d) :=
  payOf_storable m g.1.1 d g.2

section Facts
variable (c : Dev nD)

theorem duties_bar : (sched (F := F) m).duties (barCell c) 0 = Finset.univ := by
  dsimp only [sched]; rw [if_pos ⟨rfl, rfl⟩]; unfold dutiesOf; exact if_pos rfl
theorem duties_send (r : Fin 31) : (sched (F := F) m).duties (sendCell c r.succ) 0 = {0} := by
  dsimp only [sched]; rw [if_pos ⟨rfl, rfl⟩]
  exact if_pos ⟨by rw [sendS_val]; omega, by rw [slotOf_send]; exact Fin.succ_ne_zero r⟩
theorem duties_recv (r : Fin 31) : (sched (F := F) m).duties (recvCell c r.succ) 0 = {0} := by
  dsimp only [sched]; rw [if_pos ⟨rfl, rfl⟩]
  exact if_pos ⟨by rw [recvS_val]; omega, by rw [slotOf_recv]; exact Fin.succ_ne_zero r⟩
theorem duties_later (g : GSem nD τ sig) : ∀ r, 1 ≤ r → (sched (F := F) m).duties g r = ∅ :=
  fun r hr => by dsimp only [sched]; exact if_neg fun h => by omega
theorem duties_send0 : ∀ r, 0 ≤ r → (sched (F := F) m).duties (sendCell c 0) r = ∅ := fun r _ => by
  dsimp only [sched]; split
  · unfold dutiesOf; exact if_neg fun h => h.2 (slotOf_send 0)
  · rfl
theorem duties_recv0 : ∀ r, 0 ≤ r → (sched (F := F) m).duties (recvCell c 0) r = ∅ := fun r _ => by
  dsimp only [sched]; split
  · unfold dutiesOf; exact if_neg fun h => h.2 (slotOf_recv 0)
  · rfl

theorem amount_bar (d : Fin 31) : (sched (F := F) m).amount (barCell c) 0 d = 1 := rfl
theorem amount_send (k : Fin 32) (d : Fin 31) : (sched (F := F) m).amount (sendCell c k) 0 d = N := rfl
theorem amount_recv (k : Fin 32) (d : Fin 31) : (sched (F := F) m).amount (recvCell c k) 0 d = N := rfl

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send (r : Fin 31) : (sched (F := F) m).expect (sendCell c r.succ) 0 = N := by
  unfold Schedule.expect Schedule.amountOf; rw [duties_send, Finset.sum_singleton, amount_send]
theorem expect_recv (r : Fin 31) : (sched (F := F) m).expect (recvCell c r.succ) 0 = N := by
  unfold Schedule.expect Schedule.amountOf; rw [duties_recv, Finset.sum_singleton, amount_recv]

theorem payload_bar (d : Fin 31) : (sched (F := F) m).payload (barCell c) 0 d = barPay (peer c d) d.succ := rfl
theorem payload_send (k : Fin 32) (d : Fin 31) : (sched (F := F) m).payload (sendCell c k) 0 d = commAny c k := by
  show payOf m c d (.dma (sendS k)) = _
  unfold payOf; dsimp only
  rw [if_pos (by rw [sendS_val]; have := k.isLt; omega), slotOf_send]
theorem payload_recv (k : Fin 32) (d : Fin 31) : (sched (F := F) m).payload (recvCell c k) 0 d = rbufFull m c k := by
  show payOf m c d (.dma (recvS k)) = _
  unfold payOf; dsimp only
  rw [if_neg (by rw [recvS_val]; omega), slotOf_recv]

theorem rest_bar : bigSep ((sched (F := F) m).duties (barCell c) 0 \ ∅) (fun d => (sched (F := F) m).payload (barCell c) 0 d)
    = bigSep Finset.univ fun r : Fin 31 => barPay (F := F) (peer c r) r.succ := by
  rw [Finset.sdiff_empty, duties_bar]
  exact bigSep_congr fun d _ => payload_bar m c d
theorem rest_send (r : Fin 31) : bigSep ((sched (F := F) m).duties (sendCell c r.succ) 0 \ ∅) (fun d => (sched (F := F) m).payload (sendCell c r.succ) 0 d)
    = commAny c r.succ := by
  rw [Finset.sdiff_empty, duties_send, bigSep_singleton, payload_send]
theorem rest_recv (r : Fin 31) : bigSep ((sched (F := F) m).duties (recvCell c r.succ) 0 \ ∅) (fun d => (sched (F := F) m).payload (recvCell c r.succ) 0 d)
    = rbufFull m c r.succ := by
  rw [Finset.sdiff_empty, duties_recv, bigSep_singleton, payload_recv]

end Facts

/-! ## What a device owes -/

/-- The slots in the order the grid visits them. -/
abbrev slots : List (Fin 31) := List.finRange 31

/-- The credit of the landings of the slots `l`, owed to the peers. -/
def landDues (c : Dev nD) (l : List (Fin 31)) : CellTallies nD τ sig Unit := (l.map fun r => tallyAt (recvCell (peer c r) r.succ) () N).sum
/-- A unit to the barrier of each peer `l`. -/
def barDues (c : Dev nD) (l : List (Fin 31)) : CellTallies nD τ sig Unit := (l.map fun r => tallyAt (barCell (peer c r)) () 1).sum

theorem landDues_cons (c : Dev nD) (r : Fin 31) (l : List (Fin 31)) :
    landDues c (r :: l) = landDues c l + tallyAt (recvCell (peer c r) r.succ) () N := by
  unfold landDues; rw [List.map_cons, List.sum_cons, add_comm]
theorem barDues_cons (c : Dev nD) (r : Fin 31) (l : List (Fin 31)) :
    barDues c (r :: l) = barDues c l + tallyAt (barCell (peer c r)) () 1 := by
  unfold barDues; rw [List.map_cons, List.sum_cons, add_comm]

/-- What a device owes at launch: every peer a barrier unit and a landing. -/
def O₀ (c : Dev nD) : CellTallies nD τ sig Unit := landDues c slots + barDues c slots

/-! ## The levels: staging below the barrier below the transfers -/

def L (g : GSem nD τ sig) : Finset Unit := if g.1.2 = .tc then {()} else ∅
def lvOf : SemLoc sig → ℕ
  | .reg _ => 1
  | .dma q => if q.val < 6 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 32) : lv (recvCell c k) () = 2 := by
  show (if (recvS k).val < 6 then 0 else 2) = 2
  rw [if_neg (by rw [recvS_val]; omega)]

/-- A tally of a list's sum is one of the list's. -/
theorem sum_pos {I : Type} (l : List I) (t : I → CellTallies nD τ sig Unit) {g : GSem nD τ sig} {u : Unit}
    (h : 0 < (l.map t).sum g u) : ∃ r ∈ l, 0 < t r g u := by
  induction l with
  | nil => exact absurd h (Nat.lt_irrefl 0)
  | cons r l ih =>
    rw [List.map_cons, List.sum_cons, Pi.add_apply, Finsupp.add_apply] at h
    by_cases hr : 0 < t r g u
    · exact ⟨r, List.mem_cons_self, hr⟩
    · obtain ⟨r', hr', h'⟩ := ih (by omega)
      exact ⟨r', List.mem_cons_of_mem _ hr', h'⟩

theorem tally_pos {g g' : GSem nD τ sig} {u u' : Unit} {n : ℕ} (h : 0 < tallyAt g' u' n g u) : g = g' := by
  rw [tallyAt_apply] at h
  by_contra hn; rw [if_neg fun h' => hn h'.1] at h; exact Nat.lt_irrefl 0 h

theorem landDues_pos {c : Dev nD} {l : List (Fin 31)} {g : GSem nD τ sig} {u : Unit} (h : 0 < landDues c l g u) :
    ∃ r : Fin 31, g = recvCell (peer c r) r.succ := by
  obtain ⟨r, -, hr⟩ := sum_pos l _ h; exact ⟨r, tally_pos hr⟩
theorem barDues_pos {c : Dev nD} {l : List (Fin 31)} {g : GSem nD τ sig} {u : Unit} (h : 0 < barDues c l g u) :
    ∃ r : Fin 31, g = barCell (peer c r) := by
  obtain ⟨r, -, hr⟩ := sum_pos l _ h; exact ⟨r, tally_pos hr⟩

/-- A staging wait may be made whatever of its dues a device still owes. -/
theorem mayWait_stage (c : Dev nD) (q : DmaSem sig) (hq : q.val < 6) (l l' : List (Fin 31)) :
    (levAts L lv : sProp 𝕄) ⊢ MayWait (c : Thread nD τ) (.dma q) () (landDues c l + barDues c l') := by
  have hpos (g : GSem nD τ sig) (u : Unit) (h : 0 < (landDues c l + barDues c l') g u) :
      (∃ r : Fin 31, g = recvCell (peer c r) r.succ) ∨ ∃ r : Fin 31, g = barCell (peer c r) := by
    rw [Pi.add_apply, Finsupp.add_apply] at h
    by_cases h1 : 0 < landDues c l g u
    · exact .inl (landDues_pos h1)
    · exact .inr (barDues_pos (c := c) (l := l') (u := u) (by omega))
  exact MayOwe.of_cut (L := L) (lev := lv) 0 (fun p hp => by rw [Finset.mem_singleton.mp hp, L_tc]; exact Finset.mem_singleton_self _)
    (fun g u hg => by rcases hpos g u hg with ⟨r, rfl⟩ | ⟨r, rfl⟩ <;> exact Finset.mem_singleton_self _)
    (fun p hp => by rw [Finset.mem_singleton.mp hp]; show (if q.val < 6 then 0 else 2) ≤ 0; rw [if_pos hq])
    (fun g u hg => by
      rcases hpos g u hg with ⟨r, rfl⟩ | ⟨r, rfl⟩
      · rw [lv_recv]; decide
      · exact Nat.one_pos)

/-- The barrier may be waited for while the landings are owed. -/
theorem mayWait_bar (c : Dev nD) (l : List (Fin 31)) :
    (levAts L lv : sProp 𝕄) ⊢ MayWait (c : Thread nD τ) (.reg barS) () (landDues c l) :=
  MayOwe.of_cut (L := L) (lev := lv) 1 (fun p hp => by rw [Finset.mem_singleton.mp hp, L_tc]; exact Finset.mem_singleton_self _)
    (fun g u hg => by obtain ⟨r, rfl⟩ := landDues_pos hg; exact Finset.mem_singleton_self _)
    (fun p hp => by rw [Finset.mem_singleton.mp hp]; exact le_rfl)
    (fun g u hg => by obtain ⟨r, rfl⟩ := landDues_pos hg; rw [lv_recv]; decide)

end Cert.KernelIdeal.Run

end
-- ==== Proof.KI.Loops.lean ====
/-
The kernel's body as four parts, with its two unrolled loops (the barrier's signals, the final drain) as recursion over
the list of slots.
-/
module

public import proofs.«01_k».proof.Proof.KI.Sched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The programs of a core with no result. -/
abbrev Pr (F : FTy → Type) [FloatOps F] := Prog (TpuEff nD τ sig (Elt F) Λ₀ .tc) PUnit

/-- The destination table. -/
abbrev tabM : Memref sig .tc .smem S32 .i32 := Memref.whole main_v9

theorem slab_words (k : Fin 32) : (slabR k).WholeWords (EltTy.packing .bf16) := by revert k; decide +kernel
theorem slab_packed (k : Fin 32) : (slabR k).PackedRows (EltTy.packing .bf16) := by revert k; decide +kernel

theorem commM_whole : commM.IsWhole := Memref.isWhole_whole _
theorem rbufM_whole : rbufM.IsWhole := Memref.isWhole_whole _
theorem xbufM_whole : xbufM.IsWhole := Memref.isWhole_whole _

/-- One signal to every peer in the list, then `k`. -/
def sigs (d0 : Dev nD) (k : Pr F) : List (Fin 31) → Pr F
  | [] => k
  | r :: l => (semSignalWord (peer d0 r : Dev nD) barS 1#32).bind fun _ => sigs d0 k l

set_option backward.proofsInPublic true in
/-- Keep the row block, tell every peer that this device has started, and wait for every peer to have. -/
def entryP (d0 : Dev nD) (arg2 : Memref sig .tc .vmem S128x4096 .fp8e4m3) : Pr F :=
  .op (.load arg2 (Rect.unit (s := S128x4096) ![0, 0] S128x4096.size inb_S128x4096_S128x4096_0_0).toLoadRect (View.loadsAt_vmem h_S128x4096)) fun v24 =>
  .op (.load xbufM (Rect.unit (s := S128x4096) ![0, 0] S128x4096.size inb_S128x4096_S128x4096_0_0).toLoadRect (View.loadsAt_vmem h_S128x4096)) fun _ =>
  .op (.store xbufM (Rect.unit (s := S128x4096) ![0, 0] S128x4096.size inb_S128x4096_S128x4096_0_0) (k0_pay4 v24) Finset.univ (View.stores_vmem h_S128x4096 (xbufM_whole.storeExact_slice rfl _ packedfp8e4m3_S128x4096_S128x4096_0_0) (fun _ => rfl)) (.inl rfl)) fun _ =>
  sigs d0 ((semWaitWord barS 31#32).bind fun _ => .ret ⟨⟩) slots

set_option backward.proofsInPublic true in
/-- The device's own piece of its product, straight into the result. -/
def ownP (i : grid0.Coords) (h2 : k0_cond2 i = 1#1) (d0 : Dev nD) (arg6 : Memref sig .tc .vmem S4096x256 .f32) (v : FVec F S128x256 .f32) : Pr F :=
  .op (.load arg6 (Rect.unit (s := S4096x256) (k0_off2 d0) S128x256.size (k0_off2_inb i d0 h2)).toLoadRect (View.loadsAt_vmem h_S128x256)) fun _ =>
  .op (.store arg6 (Rect.unit (s := S4096x256) (k0_off2 d0) S128x256.size (k0_off2_inb i d0 h2)) v Finset.univ (View.stores_vmem_bits_univ h_S128x256 rfl) (.inl rfl)) fun _ =>
  .ret ⟨⟩

set_option maxHeartbeats 8000000 in
set_option backward.proofsInPublic true in
/-- A peer's piece on its way to the device named by the word `v33`. -/
def shipP (i : grid0.Coords) (h3 : k0_cond3 i = 1#1) (v33 : Elt F .i32) : Pr F :=
  (Prog.lift (TpuEff.assume (k0_chk1 i v33) (k0_chk1.dec i v33))).bind fun (hw : PLift (k0_chk1 i v33)) =>
  .op (.enqueueDma (commM.slice (Rect.unit (s := S4096x256) (k0_off6 i) S128x256.size (k0_off6_inb i h3)) (fun _ => rfl))
    (.remote (Dev.tc (⟨k0_dev32 v33, k0_dev32_lt i v33 hw.down h3⟩ : Dev nD)) (rbufM.slice (Rect.unit (s := S4096x256) (k0_off6 i) S128x256.size (k0_off6_inb i h3)) (fun _ => rfl))
      (.dma ((cc0_scratch3.slice (Rect.unit (s := S32) (k0_off5 i) S1.size (k0_off5_inb i h3))).squeeze S_ squeezes_S1_S_).sem))
    (.dma ((cc0_scratch4.slice (Rect.unit (s := S32) (k0_off5 i) S1.size (k0_off5_inb i h3))).squeeze S_ squeezes_S1_S_).sem)
    (commM_whole.wordExact_slice rfl _ (k0_off6_wordsbf16 i h3)) (rbufM_whole.wordExact_slice rfl _ (k0_off6_wordsbf16 i h3)) ⟨⟨rfl, Or.inl rfl⟩, trivial⟩) fun _ =>
  .ret ⟨⟩

set_option maxHeartbeats 8000000 in
set_option backward.proofsInPublic true in
/-- A peer's piece, into its slab of `comm` and from there on its way. -/
def sendP (i : grid0.Coords) (h3 : k0_cond3 i = 1#1) (v : FVec F S128x256 .bf16) : Pr F :=
  .op (.load commM (Rect.unit (s := S4096x256) (k0_off3 i) S128x256.size (k0_off3_inb i h3)).toLoadRect (View.loadsAt_vmem h_S128x256)) fun _ =>
  .op (.store commM (Rect.unit (s := S4096x256) (k0_off3 i) S128x256.size (k0_off3_inb i h3)) v Finset.univ (View.stores_vmem h_S128x256 (commM_whole.storeExact_slice rfl _ (k0_off3_packedbf16 i h3)) (fun _ => rfl)) (.inl rfl)) fun _ =>
  (smemLoad tabM (Rect.unit (s := S32) (k0_off4 i) S1.size (k0_off4_inb i h3)) numel1_S1 rfl).bind fun (v33 : Elt F .i32) => shipP i h3 v33

set_option backward.proofsInPublic true in
/-- One slot of the drain: wait for the copy out and the copy in, and widen the landed piece into the result. -/
def drainStep (i : grid0.Coords) (h4 : k0_cond4 i = 1#1) (d0 : Dev nD) (arg6 : Memref sig .tc .vmem S4096x256 .f32) (r : Fin 31) (k : Pr F) : Pr F :=
  (smemLoad tabM (slotR r.succ) numel1_S1 rfl).bind fun _ =>
  .op (.waitDma2 (sendS r.succ) (rbufS r.succ) (commS r.succ) (rbufM_whole.wordExact_slice rfl _ (slab_words r.succ)) (commM_whole.wordExact_slice rfl _ (slab_words r.succ))) fun _ =>
  .op (.waitDma2 (recvS r.succ) (commS r.succ) (rbufS r.succ) (commM_whole.wordExact_slice rfl _ (slab_words r.succ)) (rbufM_whole.wordExact_slice rfl _ (slab_words r.succ))) fun _ =>
  .op (.load rbufM (slabR r.succ).toLoadRect (View.loadsAt_vmem h_S128x256)) fun v =>
  .op (.load arg6 (Rect.unit (s := S4096x256) (k0_off7 d0 (BitVec.ofNat 32 (1 + r.val))) S128x256.size (k0_off7_inb i d0 h4 r)).toLoadRect (View.loadsAt_vmem h_S128x256)) fun _ =>
  .op (.store arg6 (Rect.unit (s := S4096x256) (k0_off7 d0 (BitVec.ofNat 32 (1 + r.val))) S128x256.size (k0_off7_inb i d0 h4 r)) (extf .f32 v bitsLt_bf16_f32 : FVec F S128x256 .f32) Finset.univ (View.stores_vmem_bits_univ h_S128x256 rfl) (.inl rfl)) fun _ => k

/-- The drain of every slot in the list, then the end. -/
def drain (i : grid0.Coords) (h4 : k0_cond4 i = 1#1) (d0 : Dev nD) (arg6 : Memref sig .tc .vmem S4096x256 .f32) : List (Fin 31) → Pr F
  | [] => .ret ⟨⟩
  | r :: l => drainStep i h4 d0 arg6 r (drain i h4 d0 arg6 l)

/-- After the send: the drain, at the last point. -/
def rest3 (i : grid0.Coords) (d0 : Dev nD) (arg6 : Memref sig .tc .vmem S4096x256 .f32) : Pr F :=
  if h4 : k0_cond4 i = 1#1 then drain i h4 d0 arg6 slots else .ret ⟨⟩

/-- After the device's own piece: the send, at every point but the first. -/
def rest2 (i : grid0.Coords) (d0 : Dev nD) (arg6 : Memref sig .tc .vmem S4096x256 .f32) (v3 v4 : Elt F .f32) (v9 : Vec F S128x4096 .fp8e4m3) (v10 : Vec F S4096x256 .fp8e4m3) : Pr F :=
  if h3 : k0_cond3 i = 1#1 then (sendP i h3 (k0_pay2 v3 v4 v9 v10)).bind fun _ => rest3 i d0 arg6 else rest3 i d0 arg6

/-- After the entry: the product of the kept row block with the point's column block, and where it goes. -/
def rest1 (i : grid0.Coords) (d0 : Dev nD) (arg3 : Memref sig .tc .vmem S4096x256 .fp8e4m3) (arg6 : Memref sig .tc .vmem S4096x256 .f32) (v3 v4 : Elt F .f32) : Pr F :=
  .op (.load xbufM (Rect.unit (s := S128x4096) ![0, 0] S128x4096.size inb_S128x4096_S128x4096_0_0).toLoadRect (View.loadsAt_vmem h_S128x4096)) fun v9 =>
  .op (.load arg3 (Rect.unit (s := S4096x256) ![0, 0] S4096x256.size inb_S4096x256_S4096x256_0_0).toLoadRect (View.loadsAt_vmem h_S4096x256)) fun v10 =>
  if h2 : k0_cond2 i = 1#1 then (ownP i h2 d0 arg6 (k0_pay1 v3 v4 v9 v10)).bind fun _ => rest2 i d0 arg6 v3 v4 v9 v10 else rest2 i d0 arg6 v3 v4 v9 v10

section
variable (i : grid0.Coords) (harg1 : tabM.IsWhole) (arg2 : Memref sig .tc .vmem S128x4096 .fp8e4m3) (harg2 : arg2.IsWhole) (arg3 : Memref sig .tc .vmem S4096x256 .fp8e4m3) (harg3 : arg3.IsWhole) (arg4 : Memref sig .tc .smem S1 .f32) (harg4 : arg4.IsWhole) (arg5 : Memref sig .tc .smem S1 .f32) (harg5 : arg5.IsWhole) (arg6 : Memref sig .tc .vmem S4096x256 .f32) (harg6 : arg6.IsWhole) (harg7 : xbufM.IsWhole) (harg8 : commM.IsWhole) (harg9 : rbufM.IsWhole)

set_option maxRecDepth 65536 in
set_option maxHeartbeats 4000000 in
theorem entry_eq (d0 : Dev nD) (v2 : BitVec 32) (h1 : k0_cond1 i = 1#1) (K : Pr F) :
    (do
      let v29 ← k0_part1 (F := F) i tabM harg1 arg2 harg2 arg3 harg3 arg4 harg4 arg5 harg5 arg6 harg6 xbufM harg7 commM harg8 rbufM harg9 cc0_scratch3 cc0_scratch4 d0 v2 h1
      k0_part2 i tabM harg1 arg2 harg2 arg3 harg3 arg4 harg4 arg5 harg5 arg6 harg6 xbufM harg7 commM harg8 rbufM harg9 cc0_scratch3 cc0_scratch4 d0 v2 h1 v29
      k0_part3 i tabM harg1 arg2 harg2 arg3 harg3 arg4 harg4 arg5 harg5 arg6 harg6 xbufM harg7 commM harg8 rbufM harg9 cc0_scratch3 cc0_scratch4 d0 v2 h1 v29
      k0_part4 i tabM harg1 arg2 harg2 arg3 harg3 arg4 harg4 arg5 harg5 arg6 harg6 xbufM harg7 commM harg8 rbufM harg9 cc0_scratch3 cc0_scratch4 d0 v2 h1 v29
      k0_part5 i tabM harg1 arg2 harg2 arg3 harg3 arg4 harg4 arg5 harg5 arg6 harg6 xbufM harg7 commM harg8 rbufM harg9 cc0_scratch3 cc0_scratch4 d0 v2 h1 v29
      semSignalWord (⟨k0_dev29 d0, k0_dev29_lt i d0 h1⟩ : Dev nD) v29.sem 1#32
      semSignalWord (⟨k0_dev30 d0, k0_dev30_lt i d0 h1⟩ : Dev nD) v29.sem 1#32
      semSignalWord (⟨k0_dev31 d0, k0_dev31_lt i d0 h1⟩ : Dev nD) v29.sem 1#32
      semWaitWord v29.sem 31#32
      K : Pr F) = (entryP d0 arg2).bind fun _ => K := by
  simp only [k0_part1_eq_skeleton, k0_part2_eq_skeleton, k0_part3_eq_skeleton, k0_part4_eq_skeleton, k0_part5_eq_skeleton,
    k0_part1_skel, k0_part2_skel, k0_part3_skel, k0_part4_skel, k0_part5_skel,
    k0_dev1_eq, k0_dev2_eq, k0_dev3_eq, k0_dev4_eq, k0_dev5_eq, k0_dev6_eq, k0_dev7_eq, k0_dev8_eq, k0_dev9_eq, k0_dev10_eq, k0_dev11_eq,
    k0_dev12_eq, k0_dev13_eq, k0_dev14_eq, k0_dev15_eq, k0_dev16_eq, k0_dev17_eq, k0_dev18_eq, k0_dev19_eq, k0_dev20_eq, k0_dev21_eq,
    k0_dev22_eq, k0_dev23_eq, k0_dev24_eq, k0_dev25_eq, k0_dev26_eq, k0_dev27_eq, k0_dev28_eq, k0_dev29_eq, k0_dev30_eq, k0_dev31_eq]
  rfl

set_option maxRecDepth 65536 in
set_option maxHeartbeats 8000000 in
/-- The body, part by part. -/
theorem body_eq :
    cc0_body (F := F) i tabM harg1 arg2 harg2 arg3 harg3 arg4 harg4 arg5 harg5 arg6 harg6 xbufM harg7 commM harg8 rbufM harg9 cc0_scratch3 cc0_scratch4 =
      .op .deviceId fun d0 =>
        (smemLoad arg4 (Rect.unit (s := S1) ![0] S1.size inb_S1_S1_0) numel1_S1 rfl).bind fun v3 =>
        (smemLoad arg5 (Rect.unit (s := S1) ![0] S1.size inb_S1_S1_0) numel1_S1 rfl).bind fun v4 =>
        if h1 : k0_cond1 i = 1#1 then (entryP d0 arg2).bind fun _ => rest1 i d0 arg3 arg6 v3 v4 else rest1 i d0 arg3 arg6 v3 v4 := by
  rw [cc0_body_eq_skeleton]
  unfold cc0_body_skel
  refine congrArg (Prog.op TpuEff.deviceId) (funext fun d0 => ?_)
  dsimp only [Bind.bind, Prog.pure_eq_ret, Prog.lift, Prog.bind]
  refine congrArg (Prog.bind _) (funext fun v3 => ?_)
  refine congrArg (Prog.bind _) (funext fun v4 => ?_)
  refine dite_congr rfl (fun h1 => (entry_eq i harg1 arg2 harg2 arg3 harg3 arg4 harg4 arg5 harg5 arg6 harg6 harg7 harg8 harg9 d0 _ h1 _).trans
      (congrArg (Prog.bind _) (funext fun _ => ?_))) (fun _ => ?_)
  all_goals
    refine congrArg (Prog.op _) (funext fun v9 => congrArg (Prog.op _) (funext fun v10 => ?_))
    refine dite_congr rfl (fun h2 => congrArg (Prog.op _) (funext fun _ => congrArg (Prog.op _) (funext fun _ => ?_))) (fun _ => ?_)
  all_goals
    refine dite_congr rfl (fun h3 => congrArg (Prog.op _) (funext fun _ => congrArg (Prog.op _) (funext fun _ => ?_))) (fun _ => ?_)
    · change _ = Prog.bind (Prog.bind _ _) _
      refine Eq.trans ?_ (Prog.bind_assoc _ _ _).symm
      refine congrArg (Prog.bind _) (funext fun v33 => congrArg (Prog.op _) (funext fun hw => congrArg (Prog.op _) (funext fun _ => ?_)))
      exact dite_congr rfl (fun h4 => by rfl) (fun _ => rfl)
    · exact dite_congr rfl (fun h4 => by rfl) (fun _ => rfl)
end

end Cert.KernelIdeal.Run

end
-- ==== Proof.KI.Steps.lean ====
/-
The kernel's instructions one by one, over memory held as typed contents: loads and stores, the barrier's signals, a
send, and one slot of the drain.
-/
module

public import proofs.«01_k».proof.Proof.KI.Loops

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a core's program must meet to end at `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Memory held at typed contents. -/
abbrev holds (c : Dev nD) {sp : CoreSpace} {sh : Shape} {e : EltTy} (M : Memref sig .tc sp sh e) (X : sh.Idx → Elt F e) : sProp 𝕄 :=
  owns (c : Thread nD τ) M fullShare X

section Generic

variable (c : Dev nD) {sp : CoreSpace} {sh : Shape} {e : EltTy} (M : Memref sig .tc sp sh e)

theorem runs_load (r : Rect sh) {hl : M.view.LoadsAt r.toLoadRect} (X : sh.Idx → Elt F e)
    {α : Type} {Q : α → sProp 𝕄} {k : (r.shape.Idx → Elt F e) → Prog (TpuEff nD τ sig (Elt F) Λ₀ .tc) α} :
    holds c M X ⊢ iprop((holds c M X -∗ Runs c (k fun j => X (r.emb j)) Q) -∗ Runs c (.op (.load M r.toLoadRect hl) k) Q) := by
  unfold holds owns
  iintro ⟨%f, %hf, H⟩ Hk
  subst hf
  iapply (wp_load_rect 𝒱₀ (c : Thread nD τ) none Set.univ (m := M) (r := r) (S := M.view.set) (View.set_slice_subset M.view r)) $$ H
  iintro H
  iapply Hk
  iexists f
  isplitr; · ipureintro; rfl
  iexact H

theorem runs_smem {M : Memref sig .tc .smem sh e} (r : Rect sh) (h1 : r.shape.numel = 1) (hp : EltTy.packing e = 1) (X : sh.Idx → Elt F e)
    {α : Type} {Q : α → sProp 𝕄} {k : Elt F e → Prog (TpuEff nD τ sig (Elt F) Λ₀ .tc) α} :
    holds c M X ⊢ iprop((holds c M X -∗ Runs c (k (X (r.emb (Shape.Idx.first (h1.symm ▸ Nat.one_pos))))) Q)
      -∗ Runs c ((smemLoad M r h1 hp).bind k) Q) := by
  unfold smemLoad smemLoadElt
  exact runs_load c M r X (k := fun f => k (f (Shape.Idx.first (h1.symm ▸ Nat.one_pos))))

theorem runs_load_slice (r : Rect sh) (hr : ∀ a, r.stride a = 1) {hl : M.view.LoadsAt r.toLoadRect} (X : r.shape.Idx → Elt F e)
    {α : Type} {Q : α → sProp 𝕄} {k : (r.shape.Idx → Elt F e) → Prog (TpuEff nD τ sig (Elt F) Λ₀ .tc) α} :
    holds c (M.slice r hr) X ⊢ iprop((holds c (M.slice r hr) X -∗ Runs c (k X) Q) -∗ Runs c (.op (.load M r.toLoadRect hl) k) Q) := by
  unfold holds owns
  iintro ⟨%f, %hf, H⟩ Hk
  subst hf
  iapply (wp_load_rect 𝒱₀ (c : Thread nD τ) none Set.univ (m := M) (r := r) (S := (M.access r).set) subset_rfl) $$ H
  iintro H
  iapply Hk
  iexists f
  isplitr; · ipureintro; rfl
  iexact H

theorem runs_store_slice (r : Rect sh) (hr : ∀ a, r.stride a = 1) {w : r.shape.Idx → Elt F e} {hx : (M.access r).Stores Finset.univ}
    {hm : Finset.univ = Finset.univ ∨ ∀ a, r.stride a = 1} (X : r.shape.Idx → Elt F e)
    {α : Type} {Q : α → sProp 𝕄} {k : PUnit → Prog (TpuEff nD τ sig (Elt F) Λ₀ .tc) α} :
    holds c (M.slice r hr) X ⊢ iprop((holds c (M.slice r hr) w -∗ Runs c (k ⟨⟩) Q) -∗ Runs c (.op (.store M r w Finset.univ hx hm) k) Q) := by
  unfold holds owns
  iintro ⟨%f, %hf, H⟩ Hk
  iapply (wp_store 𝒱₀ (c : Thread nD τ) none Set.univ (m := M) (r := r) (S := (M.access r).set) subset_rfl) $$ H
  iintro H
  iapply Hk
  iexists _
  isplitr
  rotate_left
  · iexact H
  · ipureintro; exact View.read_write_univ _ w

theorem runs_store (r : Rect sh) {w : r.shape.Idx → Elt F e} {hx : (M.access r).Stores Finset.univ}
    {hm : Finset.univ = Finset.univ ∨ ∀ a, r.stride a = 1} (X : sh.Idx → Elt F e)
    {α : Type} {Q : α → sProp 𝕄} {k : PUnit → Prog (TpuEff nD τ sig (Elt F) Λ₀ .tc) α} :
    holds c M X ⊢ iprop((holds c M (r.overlay X w) -∗ Runs c (k ⟨⟩) Q) -∗ Runs c (.op (.store M r w Finset.univ hx hm) k) Q) := by
  unfold holds owns
  iintro ⟨%f, %hf, H⟩ Hk
  subst hf
  iapply (wp_store 𝒱₀ (c : Thread nD τ) none Set.univ (m := M) (r := r) (S := M.view.set) (View.set_slice_subset M.view r)) $$ H
  iintro H
  iapply Hk
  iexists _
  isplitr
  rotate_left
  · iexact H
  · ipureintro
    funext y
    by_cases hy : y ∈ r.set
    · obtain ⟨x, -, rfl⟩ := Finset.mem_map.mp ((Rect.map_emb_univ r).symm ▸ hy)
      rw [Rect.overlay_emb]
      exact View.read_slice_write_emb r f w (Finset.mem_univ x)
    · rw [Rect.overlay_of_not_mem _ _ _ hy]
      exact View.read_slice_write_of_not_mem r f w Finset.univ ((Rect.map_emb_univ r).symm ▸ hy)

end Generic

/-- A rectangle that is a slab is one whatever its offset is called. -/
theorem overlay_all {sh : Shape} {α : Type} {off : Fin sh.rank → ℕ} (h0 : off = fun _ => 0) (inb) (X w : sh.Idx → α) :
    (Rect.unit (s := sh) off sh.size inb).overlay X w = w := by
  subst h0
  funext j
  have hj : (Rect.unit (s := sh) (fun _ => 0) sh.size inb).emb j = j := by
    funext a; apply Fin.ext; show 0 + 1 * (j a).val = (j a).val; omega
  conv_lhs => rw [← hj]
  exact Rect.overlay_emb (Rect.unit (s := sh) (fun _ => 0) sh.size inb) X w j

theorem read_all {sh : Shape} {α : Type} {off : Fin sh.rank → ℕ} (h0 : off = fun _ => 0) (inb) (X : sh.Idx → α) :
    (fun j => X ((Rect.unit (s := sh) off sh.size inb).emb j)) = X := by
  subst h0
  funext j
  refine congrArg X ?_
  funext a; apply Fin.ext; show 0 + 1 * (j a).val = (j a).val; omega

theorem zero2 : (![0, 0] : Fin 2 → ℕ) = fun _ => 0 := funext fun a => by fin_cases a <;> rfl

variable (m : (ℓ : Loc nD τ sig) → Buf (Elt F) ℓ)

/-! ## The cells' invariants -/

/-- The cell of an own DMA semaphore. -/
abbrev ownCell (c : Dev nD) (x : Bool × Fin 32) : GSem nD τ sig := ((c : Thread nD τ), osem x)

/-- Every cell's invariant. -/
def Recs (κ : GSem nD τ sig → ℕ) : sProp 𝕄 :=
  iprop((bigSep Finset.univ fun c : Dev nD => cellInv ER (sched m) (κ (barCell c)) (barCell c))
    ∗ bigSep Finset.univ fun p : Dev nD × (Bool × Fin 32) => cellInv ER (sched m) (κ (ownCell p.1 p.2)) (ownCell p.1 p.2))

instance recs_persistent (κ : GSem nD τ sig → ℕ) : Persistent (Recs (F := F) m κ) := by unfold Recs; infer_instance

theorem recs_bar (κ : GSem nD τ sig → ℕ) (c : Dev nD) : Recs m κ ⊢ cellInv ER (sched m) (κ (barCell c)) (barCell c) := by
  unfold Recs
  exact (Idealize.SL.BI.sep_and.trans Idealize.SL.BI.and_elimL).trans (bigSep_elim (Φ := fun c : Dev nD => cellInv ER (sched m) (κ (barCell c)) (barCell c)) (Finset.mem_univ c))
theorem recs_own (κ : GSem nD τ sig → ℕ) (c : Dev nD) (x : Bool × Fin 32) : Recs m κ ⊢ cellInv ER (sched m) (κ (ownCell c x)) (ownCell c x) := by
  unfold Recs
  exact (Idealize.SL.BI.sep_and.trans Idealize.SL.BI.and_elimR).trans (bigSep_elim (Φ := fun p : Dev nD × (Bool × Fin 32) => cellInv ER (sched m) (κ (ownCell p.1 p.2)) (ownCell p.1 p.2)) (Finset.mem_univ (c, x)))
theorem recs_send (κ : GSem nD τ sig → ℕ) (c : Dev nD) (k : Fin 32) : Recs m κ ⊢ cellInv ER (sched m) (κ (sendCell c k)) (sendCell c k) :=
  recs_own m κ c (false, k)
theorem recs_recv (κ : GSem nD τ sig → ℕ) (c : Dev nD) (k : Fin 32) : Recs m κ ⊢ cellInv ER (sched m) (κ (recvCell c k)) (recvCell c k) :=
  recs_own m κ c (true, k)

/-! ## The barrier -/

/-- What the signal to `peer c r` needs: the right to it, and this device's landing slab for that peer. -/
def sigRes (c : Dev nD) (r : Fin 31) : sProp 𝕄 :=
  iprop(dutyTok ER (barCell (peer c r)) 0 r.rev ∗ reached ER (barCell (peer c r)) 0 ∗ barPay c r.rev.succ)

theorem runs_sigs (κ : GSem nD τ sig → ℕ) (c : Dev nD) (O : CellTallies nD τ sig Unit) (W : Waits sig Unit) {Q : PUnit → sProp 𝕄} (k : Pr F) :
    ∀ l : List (Fin 31), iprop(Recs m κ ∗ owes (c : Thread nD τ) (O + barDues c l) W ∗ bigSepL l (sigRes c)
      ∗ (owes (c : Thread nD τ) O W -∗ Runs c k Q)) ⊢ Runs c (sigs c k l) Q
  | [] => by
    rw [show barDues c [] = 0 from rfl, add_zero]
    iintro ⟨-, HO, -, Hk⟩
    iapply Hk; iexact HO
  | r :: l => by
    rw [barDues_cons, ← add_assoc, bigSepL_cons']
    unfold sigs
    simp only [semSignalWord, Prog.lift, Prog.bind_op, Prog.bind_ret]
    unfold sigRes
    iintro ⟨#HR, HO, ⟨⟨Ht, #Hr, Hp⟩, Hl⟩, Hk⟩
    iapply (Rounds.wp_signal 𝒱₀ ER (sched m) (c : Thread nD τ) none (dst := (peer c r : Thread nD τ)) (κ := κ (barCell (peer c r)))
      (d := r.rev) (by rw [duties_bar]; exact Finset.mem_univ _) ((amount_bar m (peer c r) r.rev).trans (by decide)) () (O + barDues c l) rfl)
      $$ [HO Ht Hp]
    · isplitr; · iapply (recs_bar m κ (peer c r)); iexact HR
      isplitl [HO]; · iexact HO
      isplitl [Ht]; · iexact Ht
      isplitl [Hp]
      · rw [payload_bar, peer_rev]; iexact Hp
      · iexact Hr
    iintro HO
    iapply (runs_sigs κ c O W k l)
    isplitr; · iexact HR
    isplitl [HO]; · iexact HO
    isplitl [Hl]; · iexact Hl
    iexact Hk

theorem runs_barrier (κ : GSem nD τ sig → ℕ) (c : Dev nD) (W : Waits sig Unit) {Q : PUnit → sProp 𝕄} (k : PUnit → Pr F) :
    iprop(Recs m κ ∗ cred (tallyAt (barCell c) () 31) ∗ owes (c : Thread nD τ) (landDues c slots) W ∗ levAts L lv ∗ atPos ER (barCell c) 0 ∅ 0)
      ⊢ iprop(((owes (c : Thread nD τ) (landDues c slots) (insert (SemLoc.reg barS, ()) W) ∗ atPos ER (barCell c) (0 + 1) ∅ 0
          ∗ bigSepL slots fun r => barPay (peer c r) r.succ) -∗ Runs c (k ⟨⟩) Q) -∗ Runs c ((semWaitWord barS 31#32).bind k) Q) := by
  simp only [semWaitWord, Prog.lift, Prog.bind_op, Prog.bind_ret]
  iintro ⟨#HR, Hc, HO, #Hlev, Hat⟩ Hk
  iapply (Rounds.wp_wait_rest_token 𝒱₀ ER (sched m) (c : Thread nD τ) none (κ := κ (barCell c))
      (wpE_semWait_eq 𝒱₀ (c : Thread nD τ) none Set.univ) (Set.mem_univ _) () (O := landDues c slots) (W := W) (R := 0) (m := 0) (T := ∅)
      (by rw [expect_bar]; decide)) $$ [Hc HO Hat]
  · isplitr; · iapply (recs_bar m κ c); iexact HR
    isplitl [Hc]; · iexact Hc
    isplitl [HO]; · iexact HO
    isplitr; · iapply (mayWait_bar c slots); iexact Hlev
    iexact Hat
  iintro ⟨HO, Hat, -, Hpay⟩
  ihave Hp2 := (Entails.of_eq (rest_bar m c)) $$ Hpay
  iapply Hk
  isplitl [HO]; · iexact HO
  isplitl [Hat]; · iexact Hat
  rw [← bigSep_univ_eq_bigSepL slots (List.toFinset_finRange 31).symm (List.nodup_finRange 31)]
  iexact Hp2

/-! ## A send -/

/-- The table of destinations of device `c`: at slot `k` the device `k` places on. -/
def tabOf (c : Dev nD) : S32.Idx → Elt F .i32 := fun d => BitVec.ofNat 32 ((c.val + (d (0 : Fin 1)).val) % 32)

theorem tab_read (c : Dev nD) (k : ℕ) (o : Fin 1 → ℕ) (ho : o = ![k]) (p) (x) :
    tabOf (F := F) c ((Rect.unit (s := S32) o S1.size p).emb x) = BitVec.ofNat 32 ((c.val + k) % 32) := by
  subst ho
  unfold tabOf
  have h : ((Rect.unit (s := S32) ![k] S1.size p).emb x (0 : Fin 1)).val = k := by
    show k + 1 * (x (0 : Fin 1)).val = k
    have : (x (0 : Fin 1)).val < 1 := (x (0 : Fin 1)).isLt
    omega
  rw [h]

theorem runs_tab (c : Dev nD) (k : ℕ) (o : Fin 1 → ℕ) (ho : o = ![k]) (p : ∀ a, o a + S1.size a ≤ S32.size a) (h1 : (Rect.unit (s := S32) o S1.size p).shape.numel = 1)
    {Q : PUnit → sProp 𝕄} {K : Elt F .i32 → Pr F} :
    holds c tabM (tabOf c) ⊢ iprop((holds c tabM (tabOf c) -∗ Runs c (K (BitVec.ofNat 32 ((c.val + k) % 32))) Q)
      -∗ Runs c ((smemLoad tabM (Rect.unit (s := S32) o S1.size p) h1 rfl).bind K) Q) := by
  rw [← tab_read (F := F) c k o ho p (Shape.Idx.first (h1.symm ▸ Nat.one_pos))]
  exact runs_smem c _ h1 rfl (tabOf c)

theorem dev32_word (k : ℕ) (hk : k < 32) : k0_dev32 (BitVec.ofNat 32 k) = k := by
  have : ∀ k : Fin 32, k0_dev32 (BitVec.ofNat 32 k.val) = k.val := by decide
  exact this ⟨k, hk⟩

/-- What the transfer of slot `r` needs beyond the piece itself. -/
def readyRes (c : Dev nD) (r : Fin 31) : sProp 𝕄 :=
  iprop(barPay (peer c r) r.succ ∗ dutyTok ER (sendCell c r.succ) 0 0 ∗ reached ER (sendCell c r.succ) 0 ∗ dutyTok ER (recvCell (peer c r) r.succ) 0 0)

theorem send_pay (c : Dev nD) (r : Fin 31) (fs : Buf (Elt F) ((commS r.succ).view.loc (c : Thread nD τ))) :
    ((commS r.succ).view.loc (c : Thread nD τ) ↦[(commS r.succ).view.set]{fullShare} fs : sProp 𝕄) ⊢ (sched (F := F) m).payload (sendCell c r.succ) 0 0 := by
  rw [payload_send]
  unfold commAny owns
  iintro H
  iexists ((commS r.succ).view.read (Elt F) fs); iexists fs
  isplitr
  rotate_left
  · iexact H
  · ipureintro; rfl

theorem recv_pay (c : Dev nD) (r : Fin 31) (fs : Buf (Elt F) ((commS r.succ).view.loc (c : Thread nD τ))) (fd : Buf (Elt F) ((rbufS r.succ).view.loc (peer c r : Thread nD τ)))
    (hfs : (commS r.succ).view.read (Elt F) fs = wire m c r.succ) :
    ((rbufS r.succ).view.loc (peer c r : Thread nD τ) ↦[(rbufS r.succ).view.set]{fullShare}
        ((rbufS r.succ).view.write (Elt F) fd ((commS r.succ).view.read (Elt F) fs) Finset.univ) : sProp 𝕄)
      ⊢ (sched (F := F) m).payload (recvCell (peer c r) r.succ) 0 0 := by
  rw [payload_recv]
  unfold rbufFull owns
  rw [back_peer, hfs]
  iintro H
  iexists _
  isplitr
  rotate_left
  · iexact H
  · ipureintro
    exact View.read_write_univ _ _

set_option maxHeartbeats 1000000 in
theorem runs_dma_pts (κ : GSem nD τ sig → ℕ) (c n : Dev nD) (r : Fin 31) (hn : n = peer c r) (fs : Buf (Elt F) ((commS r.succ).view.loc (c : Thread nD τ)))
    (fd : Buf (Elt F) ((rbufS r.succ).view.loc (peer c r : Thread nD τ))) (hfs : (commS r.succ).view.read (Elt F) fs = wire m c r.succ)
    {hsc : (rbufS r.succ : Memref sig (Dev.tc n : Thread nD τ).2.kind .vmem S128x256 .bf16).view.ref.isScScratch = false}
    {hsrc : (commS r.succ : Memref sig .tc .vmem S128x256 .bf16).view.WordExact} {hdst : (rbufS r.succ : Memref sig .tc .vmem S128x256 .bf16).view.WordExact}
    {hsem : DmaTarget.Typed .vmem (.dma (recvS r.succ)) (.remote (Dev.tc n : Thread nD τ) (rbufS r.succ : Memref sig .tc .vmem S128x256 .bf16) (.dma (sendS r.succ)) hsc)}
    (l : List (Fin 31)) (W : Waits sig Unit) {Q : PUnit → sProp 𝕄} {k : PUnit → Pr F} :
    iprop(cellInv ER (sched m) (κ (sendCell c r.succ)) (sendCell c r.succ) ∗ cellInv ER (sched m) (κ (recvCell (peer c r) r.succ)) (recvCell (peer c r) r.succ)
        ∗ ((commS r.succ).view.loc (c : Thread nD τ) ↦[(commS r.succ).view.set]{fullShare} fs)
        ∗ ((rbufS r.succ).view.loc (peer c r : Thread nD τ) ↦[(rbufS r.succ).view.set]{fullShare} fd)
        ∗ owes (c : Thread nD τ) (landDues c (r :: l)) W
        ∗ dutyTok ER (sendCell c r.succ) 0 0 ∗ reached ER (sendCell c r.succ) 0 ∗ dutyTok ER (recvCell (peer c r) r.succ) 0 0 ∗ reached ER (recvCell (peer c r) r.succ) 0)
      ⊢ iprop(((cred (tallyAt (sendCell c r.succ) () N) ∗ owes (c : Thread nD τ) (landDues c l) W) -∗ Runs c (k ⟨⟩) Q)
          -∗ Runs c (.op (.enqueueDma (commS r.succ) (.remote (Dev.tc n : Thread nD τ) (rbufS r.succ) (.dma (sendS r.succ)) hsc) (.dma (recvS r.succ)) hsrc hdst hsem) k) Q) := by
  subst hn
  rw [landDues_cons]
  exact Rounds.wp_send_pointsTo 𝒱₀ ER (sched m) (c : Thread nD τ) none (κ₁ := κ (sendCell c r.succ)) (κ₂ := κ (recvCell (peer c r) r.succ))
    (r₁ := 0) (r₂ := 0) (d₁ := 0) (d₂ := 0) (fd := fd)
    (by rw [duties_send m c r]; exact Finset.mem_singleton_self _) (by rw [duties_recv m (peer c r) r]; exact Finset.mem_singleton_self _)
    () () N rfl (amount_send m c r.succ 0) (amount_recv m (peer c r) r.succ 0) (landDues c l) rfl (W := W)
    (send_pay m c r fs) (recv_pay m c r fs fd hfs)

theorem runs_dma (κ : GSem nD τ sig → ℕ) (c n : Dev nD) (r : Fin 31) (hn : n = peer c r) (sS sR : DmaSem sig) (hS : sS = sendS r.succ) (hR : sR = recvS r.succ)
    (o : Fin 2 → ℕ) (ho : o = ![128 * r.succ.val, 0]) (p : ∀ a, o a + S128x256.size a ≤ S4096x256.size a)
    {hsc : (rbufM.slice (Rect.unit (s := S4096x256) o S128x256.size p) (fun _ => rfl) : Memref sig (Dev.tc n : Thread nD τ).2.kind .vmem S128x256 .bf16).view.ref.isScScratch = false}
    {hsrc : (commM.slice (Rect.unit (s := S4096x256) o S128x256.size p) (fun _ => rfl) : Memref sig .tc .vmem S128x256 .bf16).view.WordExact}
    {hdst : (rbufM.slice (Rect.unit (s := S4096x256) o S128x256.size p) (fun _ => rfl) : Memref sig .tc .vmem S128x256 .bf16).view.WordExact}
    {hsem : DmaTarget.Typed .vmem (.dma sR) (.remote (Dev.tc n : Thread nD τ) (rbufM.slice (Rect.unit (s := S4096x256) o S128x256.size p) (fun _ => rfl) : Memref sig .tc .vmem S128x256 .bf16) (.dma sS) hsc)}
    (l : List (Fin 31)) (W : Waits sig Unit) {Q : PUnit → sProp 𝕄} {k : PUnit → Pr F} :
    iprop(Recs m κ ∗ holds c (commS r.succ) (wire m c r.succ) ∗ readyRes c r ∗ owes (c : Thread nD τ) (landDues c (r :: l)) W)
      ⊢ iprop(((cred (tallyAt (sendCell c r.succ) () N) ∗ owes (c : Thread nD τ) (landDues c l) W) -∗ Runs c (k ⟨⟩) Q)
          -∗ Runs c (.op (.enqueueDma (commM.slice (Rect.unit (s := S4096x256) o S128x256.size p) (fun _ => rfl))
              (.remote (Dev.tc n : Thread nD τ) (rbufM.slice (Rect.unit (s := S4096x256) o S128x256.size p) (fun _ => rfl)) (.dma sS) hsc) (.dma sR) hsrc hdst hsem) k) Q) := by
  subst hS hR ho
  unfold readyRes barPay rbufAny holds owns
  iintro ⟨#HR, ⟨%fs, %hfs, Hsrc⟩, ⟨⟨⟨%X, %fd, %hfd, Hdst⟩, #Hrr⟩, Hts, #Hrs, Htr⟩, HO⟩
  iapply (runs_dma_pts m κ c n r hn fs fd hfs l W)
  isplitr; · iapply (recs_send m κ c r.succ); iexact HR
  isplitr; · iapply (recs_recv m κ (peer c r) r.succ); iexact HR
  isplitl [Hsrc]; · iexact Hsrc
  isplitl [Hdst]; · iexact Hdst
  isplitl [HO]; · iexact HO
  isplitl [Hts]; · iexact Hts
  isplitr; · iexact Hrs
  isplitl [Htr]; · iexact Htr
  iexact Hrr

section AtSlab

variable (c : Dev nD) {e : EltTy} (M : Memref sig .tc .vmem S4096x256 e) (b : Fin 32) (o : Fin 2 → ℕ) (ho : o = ![128 * b.val, 0])
  (p : ∀ a, o a + S128x256.size a ≤ S4096x256.size a)
include ho

theorem runs_load_at {hl : M.view.LoadsAt (Rect.unit (s := S4096x256) o S128x256.size p).toLoadRect} (X : S128x256.Idx → Elt F e)
    {Q : PUnit → sProp 𝕄} {k : (S128x256.Idx → Elt F e) → Pr F} :
    holds c (M.slice (slabR b) (slabR_stride b)) X ⊢ iprop((holds c (M.slice (slabR b) (slabR_stride b)) X -∗ Runs c (k X) Q)
      -∗ Runs c (.op (.load M (Rect.unit (s := S4096x256) o S128x256.size p).toLoadRect hl) k) Q) := by
  subst ho
  exact runs_load_slice c M (slabR b) (slabR_stride b) X

theorem runs_store_at {w : S128x256.Idx → Elt F e} {hx : (M.access (Rect.unit (s := S4096x256) o S128x256.size p)).Stores Finset.univ}
    {hm : (Finset.univ : Finset (Rect.unit (s := S4096x256) o S128x256.size p).shape.Idx) = Finset.univ ∨ ∀ a, (Rect.unit (s := S4096x256) o S128x256.size p).stride a = 1}
    (X : S128x256.Idx → Elt F e) {Q : PUnit → sProp 𝕄} {k : PUnit → Pr F} :
    holds c (M.slice (slabR b) (slabR_stride b)) X ⊢ iprop((holds c (M.slice (slabR b) (slabR_stride b)) w -∗ Runs c (k ⟨⟩) Q)
      -∗ Runs c (.op (.store M (Rect.unit (s := S4096x256) o S128x256.size p) w Finset.univ hx hm) k) Q) := by
  subst ho
  exact runs_store_slice c M (slabR b) (slabR_stride b) X

theorem runs_read_in {hl : M.view.LoadsAt (Rect.unit (s := S4096x256) o S128x256.size p).toLoadRect} (X : S4096x256.Idx → Elt F e)
    {Q : PUnit → sProp 𝕄} {k : (S128x256.Idx → Elt F e) → Pr F} :
    holds c M X ⊢ iprop((holds c M X -∗ Runs c (k fun j => X ((slabR b).emb j)) Q)
      -∗ Runs c (.op (.load M (Rect.unit (s := S4096x256) o S128x256.size p).toLoadRect hl) k) Q) := by
  subst ho
  exact runs_load c M (slabR b) X

theorem runs_write_in {w : S128x256.Idx → Elt F e} {hx : (M.access (Rect.unit (s := S4096x256) o S128x256.size p)).Stores Finset.univ}
    {hm : (Finset.univ : Finset (Rect.unit (s := S4096x256) o S128x256.size p).shape.Idx) = Finset.univ ∨ ∀ a, (Rect.unit (s := S4096x256) o S128x256.size p).stride a = 1}
    (X : S4096x256.Idx → Elt F e) {Q : PUnit → sProp 𝕄} {k : PUnit → Pr F} :
    holds c M X ⊢ iprop((holds c M ((slabR b).overlay X w) -∗ Runs c (k ⟨⟩) Q)
      -∗ Runs c (.op (.store M (Rect.unit (s := S4096x256) o S128x256.size p) w Finset.univ hx hm) k) Q) := by
  subst ho
  exact runs_store c M (slabR b) X

end AtSlab

theorem sem_send (o : Fin 1 → ℕ) (k : Fin 32) (ho : o = ![k.val]) (p : ∀ a, o a + S1.size a ≤ S32.size a) :
    ((cc0_scratch3.slice (Rect.unit (s := S32) o S1.size p)).squeeze S_ squeezes_S1_S_).sem = sendS k := by subst ho; rfl
theorem sem_recv (o : Fin 1 → ℕ) (k : Fin 32) (ho : o = ![k.val]) (p : ∀ a, o a + S1.size a ≤ S32.size a) :
    ((cc0_scratch4.slice (Rect.unit (s := S32) o S1.size p)).squeeze S_ squeezes_S1_S_).sem = recvS k := by subst ho; rfl

theorem dev_peer (c : Dev nD) (r : Fin 31) (v : BitVec 32) (hv : v = BitVec.ofNat 32 ((c.val + r.succ.val) % 32)) (h : k0_dev32 v < nD) :
    (⟨k0_dev32 v, h⟩ : Dev nD) = peer c r := by
  subst hv
  apply Fin.ext
  show k0_dev32 (BitVec.ofNat 32 ((c.val + r.succ.val) % 32)) = (c.val + (r.val + 1)) % 32
  rw [dev32_word _ (Nat.mod_lt _ (by decide))]; rfl

/-- A grid point's piece, on its way. -/
theorem runs_shipP (κ : GSem nD τ sig → ℕ) (c : Dev nD) (i : grid0.Coords) (h3 : k0_cond3 i = 1#1) (r : Fin 31) (hi : (i 0).val = r.succ.val)
    (v : BitVec 32) (hv : v = BitVec.ofNat 32 ((c.val + r.succ.val) % 32))
    (l : List (Fin 31)) (W : Waits sig Unit) {Q : PUnit → sProp 𝕄} (k : PUnit → Pr F) :
    iprop(Recs m κ ∗ holds c (commS r.succ) (wire m c r.succ) ∗ readyRes c r ∗ owes (c : Thread nD τ) (landDues c (r :: l)) W)
      ⊢ iprop(((cred (tallyAt (sendCell c r.succ) () N) ∗ owes (c : Thread nD τ) (landDues c l) W) -∗ Runs c (k ⟨⟩) Q)
          -∗ Runs c ((shipP i h3 v).bind k) Q) := by
  have hchk : k0_chk1 i v := fun _ => by
    rw [hv, dev32_word _ (Nat.mod_lt _ (by decide))]; exact Nat.mod_lt _ (by decide)
  unfold shipP
  simp only [Prog.bind_op, Prog.bind_assoc, Prog.lift, Prog.bind_ret]
  iintro H Hk
  iapply (wp_assume 𝒱₀ (c : Thread nD τ) none Set.univ hchk)
  iapply (runs_dma m κ c _ r (dev_peer c r v hv _) _ _ (sem_send _ r.succ (by rw [k0_off5_eq, hi]) _) (sem_recv _ r.succ (by rw [k0_off5_eq, hi]) _)
    (k0_off6 i) (by rw [k0_off6_eq, hi]) _ l W) $$ H
  iexact Hk

/-- A grid point's piece, on its way to the device the table names. -/
theorem runs_lookP (κ : GSem nD τ sig → ℕ) (c : Dev nD) (i : grid0.Coords) (h3 : k0_cond3 i = 1#1) (r : Fin 31) (hi : (i 0).val = r.succ.val)
    (l : List (Fin 31)) (W : Waits sig Unit) {Q : PUnit → sProp 𝕄} (k : PUnit → Pr F) :
    iprop(holds c tabM (tabOf c) ∗ Recs m κ ∗ holds c (commS r.succ) (wire m c r.succ) ∗ readyRes c r ∗ owes (c : Thread nD τ) (landDues c (r :: l)) W)
      ⊢ iprop(((holds c tabM (tabOf c) ∗ cred (tallyAt (sendCell c r.succ) () N) ∗ owes (c : Thread nD τ) (landDues c l) W) -∗ Runs c (k ⟨⟩) Q)
          -∗ Runs c ((smemLoad tabM (Rect.unit (s := S32) (k0_off4 i) S1.size (k0_off4_inb i h3)) numel1_S1 rfl).bind fun v33 => (shipP i h3 v33).bind k) Q) := by
  iintro ⟨Ht, H⟩ Hk
  iapply (runs_tab c r.succ.val (k0_off4 i) (by rw [k0_off4_eq, hi]) (k0_off4_inb i h3) numel1_S1 (K := fun v33 => (shipP i h3 v33).bind k)) $$ Ht
  iintro Ht
  iapply (runs_shipP m κ c i h3 r hi _ rfl l W) $$ H
  iintro ⟨Hcr, HO⟩
  iapply Hk
  isplitl [Ht]; · iexact Ht
  isplitl [Hcr]; · iexact Hcr
  iexact HO

/-- A grid point's piece, stored and sent. -/
theorem runs_sendP (κ : GSem nD τ sig → ℕ) (c : Dev nD) (i : grid0.Coords) (h3 : k0_cond3 i = 1#1) (r : Fin 31) (hi : (i 0).val = r.succ.val)
    (l : List (Fin 31)) (W : Waits sig Unit) {Q : PUnit → sProp 𝕄} (k : PUnit → Pr F) :
    iprop(Recs m κ ∗ commAny c r.succ ∗ holds c tabM (tabOf c) ∗ readyRes c r ∗ owes (c : Thread nD τ) (landDues c (r :: l)) W)
      ⊢ iprop(((holds c tabM (tabOf c) ∗ cred (tallyAt (sendCell c r.succ) () N) ∗ owes (c : Thread nD τ) (landDues c l) W) -∗ Runs c (k ⟨⟩) Q)
          -∗ Runs c ((sendP i h3 (wire m c r.succ)).bind k) Q) := by
  unfold sendP commAny
  simp only [Prog.bind_op, Prog.bind_assoc]
  iintro ⟨#HR, ⟨%X, Hc⟩, Ht, Hrdy, HO⟩ Hk
  iapply (runs_load_at c commM r.succ (k0_off3 i) (by rw [k0_off3_eq, hi]) _ X) $$ Hc
  iintro Hc
  iapply (runs_store_at c commM r.succ (k0_off3 i) (by rw [k0_off3_eq, hi]) _ X) $$ Hc
  iintro Hc
  iapply (runs_lookP m κ c i h3 r hi l W) $$ [Ht Hc Hrdy HO]
  · isplitl [Ht]; · iexact Ht
    isplitr; · iexact HR
    isplitl [Hc]; · iexact Hc
    isplitl [Hrdy]; · iexact Hrdy
    iexact HO
  iexact Hk

/-! ## The drain -/

/-- What waiting for slot `r` needs. -/
def drainRes (c : Dev nD) (r : Fin 31) : sProp 𝕄 :=
  iprop(cred (tallyAt (sendCell c r.succ) () N) ∗ cred (tallyAt (recvCell c r.succ) () N) ∗ atPos ER (sendCell c r.succ) 0 ∅ 0 ∗ atPos ER (recvCell c r.succ) 0 ∅ 0)

/-- What is back when slot `r` is drained: the slabs, and the counters at 0. -/
def doneRes (c : Dev nD) (r : Fin 31) : sProp 𝕄 :=
  iprop(commAny c r.succ ∗ rbufAny c r.succ ∗ semVal (sendCell c r.succ) 0 ∗ semVal (recvCell c r.succ) 0)

theorem runs_wait_send (κ : GSem nD τ sig → ℕ) (c : Dev nD) (r : Fin 31) (W : Waits sig Unit) {Q : PUnit → sProp 𝕄} {k : PUnit → Pr F}
    {hsrc : (rbufS r.succ : Memref sig .tc .vmem S128x256 .bf16).view.WordExact} {hdst : (commS r.succ : Memref sig .tc .vmem S128x256 .bf16).view.WordExact} :
    iprop(Recs m κ ∗ cred (tallyAt (sendCell c r.succ) () N) ∗ owes (c : Thread nD τ) 0 W ∗ atPos ER (sendCell c r.succ) 0 ∅ 0)
      ⊢ iprop(((owes (c : Thread nD τ) 0 (insert (SemLoc.dma (sendS r.succ), ()) W) ∗ atPos ER (sendCell c r.succ) (0 + 1) ∅ 0 ∗ commAny c r.succ) -∗ Runs c (k ⟨⟩) Q)
          -∗ Runs c (.op (.waitDma2 (sendS r.succ) (rbufS r.succ) (commS r.succ) hsrc hdst) k) Q) := by
  iintro ⟨#HR, Hc, HO, Hat⟩ Hk
  iapply (Rounds.wp_wait_rest_token 𝒱₀ ER (sched m) (c : Thread nD τ) none (κ := κ (sendCell c r.succ))
      (wpE_waitDma2_eq 𝒱₀ (c : Thread nD τ) none Set.univ) (Set.mem_univ _) () (O := 0) (W := W) (R := 0) (m := 0) (T := ∅)
      (by rw [Nat.zero_add, amount_comm r.succ]; exact (expect_send m c r).symm)) $$ [Hc HO Hat]
  · isplitr; · iapply (recs_send m κ c r.succ); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c r)); iexact Hpay

theorem runs_wait_recv (κ : GSem nD τ sig → ℕ) (c : Dev nD) (r : Fin 31) (W : Waits sig Unit) {Q : PUnit → sProp 𝕄} {k : PUnit → Pr F}
    {hsrc : (commS r.succ : Memref sig .tc .vmem S128x256 .bf16).view.WordExact} {hdst : (rbufS r.succ : Memref sig .tc .vmem S128x256 .bf16).view.WordExact} :
    iprop(Recs m κ ∗ cred (tallyAt (recvCell c r.succ) () N) ∗ owes (c : Thread nD τ) 0 W ∗ atPos ER (recvCell c r.succ) 0 ∅ 0)
      ⊢ iprop(((owes (c : Thread nD τ) 0 (insert (SemLoc.dma (recvS r.succ), ()) W) ∗ atPos ER (recvCell c r.succ) (0 + 1) ∅ 0 ∗ rbufFull m c r.succ) -∗ Runs c (k ⟨⟩) Q)
          -∗ Runs c (.op (.waitDma2 (recvS r.succ) (commS r.succ) (rbufS r.succ) hsrc hdst) k) Q) := by
  iintro ⟨#HR, Hc, HO, Hat⟩ Hk
  iapply (Rounds.wp_wait_rest_token 𝒱₀ ER (sched m) (c : Thread nD τ) none (κ := κ (recvCell c r.succ))
      (wpE_waitDma2_eq 𝒱₀ (c : Thread nD τ) none Set.univ) (Set.mem_univ _) () (O := 0) (W := W) (R := 0) (m := 0) (T := ∅)
      (by rw [Nat.zero_add, amount_rbuf r.succ]; exact (expect_recv m c r).symm)) $$ [Hc HO Hat]
  · isplitr; · iapply (recs_recv m κ c r.succ); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c r)); iexact Hpay

/-- What slab `b` of device `c`'s result must hold: its own piece, or the widened piece of device `b`. -/
def outSlab (c b : Dev nD) : S128x256.Idx → Elt F .f32 :=
  if h : b = c then ownPiece m c else (extf .f32 (wire m b ⟨(c.val + (32 - b.val)) % 32, Nat.mod_lt _ (by decide)⟩ : FVec F S128x256 .bf16) bitsLt_bf16_f32 : FVec F S128x256 .f32)

theorem outSlab_own (c : Dev nD) : outSlab m c c = ownPiece m c := dif_pos rfl
theorem outSlab_back (c : Dev nD) (r : Fin 31) :
    outSlab m c (back c r.succ) = (extf .f32 (wire m (back c r.succ) r.succ : FVec F S128x256 .bf16) bitsLt_bf16_f32 : FVec F S128x256 .f32) := by
  have hc : c.val < 32 := c.isLt
  have hr := r.isLt
  have hb : (back c r.succ).val = (c.val + (32 - (r.val + 1))) % 32 := rfl
  unfold outSlab
  rw [dif_neg fun h => by have := congrArg Fin.val h; omega]
  rw [show (⟨(c.val + (32 - (back c r.succ).val)) % 32, Nat.mod_lt _ (by decide)⟩ : Fin 32) = r.succ from Fin.ext (by
    show (c.val + (32 - (back c r.succ).val)) % 32 = r.val + 1
    omega)]

/-- The result with the slabs of every slot but those of `l` as they must be. -/
def Filled (c : Dev nD) (l : List (Fin 31)) (X : S4096x256.Idx → Elt F .f32) : Prop :=
  ∀ b : Dev nD, (∀ r ∈ l, b ≠ back c r.succ) → ∀ j, X ((slabR b).emb j) = outSlab m c b j

theorem slab_of_emb (b : Dev nD) (j : S128x256.Idx) (b' : Dev nD) (h : (slabR b).emb j ∈ (slabR b').set) : b' = b := by
  have h1 := (mem_slabR b' _).mp h
  have h2 := (mem_slabR b ((slabR b).emb j)).mp (Rect.map_emb_univ (slabR b) ▸ Finset.mem_map_of_mem _ (Finset.mem_univ j))
  exact Fin.ext (h1.symm.trans h2)

theorem filled_step (c : Dev nD) (r : Fin 31) (l : List (Fin 31)) (X : S4096x256.Idx → Elt F .f32) (h : Filled m c (r :: l) X) :
    Filled m c l ((slabR (back c r.succ)).overlay X (outSlab m c (back c r.succ))) := fun b hb j => by
  by_cases hr : b = back c r.succ
  · subst hr; exact Rect.overlay_emb _ _ _ j
  · rw [Rect.overlay_of_not_mem _ _ _ fun h' => hr (slab_of_emb b j _ h').symm]
    exact h b (fun r' hr' => by rcases List.mem_cons.mp hr' with rfl | h'; exacts [hr, hb r' h']) j

theorem off7_back (c : Dev nD) (r : Fin 31) : k0_off7 c (BitVec.ofNat 32 (1 + r.val)) = ![128 * (back c r.succ).val, 0] := by
  rw [k0_off7_eq]
  have hc : c.val < 32 := c.isLt
  have hr := r.isLt
  have : ((c.val + 31) - r.val) % 32 = (back c r.succ).val := by
    show ((c.val + 31) - r.val) % 32 = (c.val + (32 - (r.val + 1))) % 32
    congr 1; omega
  rw [this]

theorem runs_drainStep (κ : GSem nD τ sig → ℕ) (c : Dev nD) (i : grid0.Coords) (h4 : k0_cond4 i = 1#1) (arg6 : Memref sig .tc .vmem S4096x256 .f32) (r : Fin 31)
    (W : Waits sig Unit) (X : S4096x256.Idx → Elt F .f32) {Q : PUnit → sProp 𝕄} (k : Pr F) :
    iprop(Recs m κ ∗ holds c tabM (tabOf c) ∗ drainRes c r ∗ owes (c : Thread nD τ) 0 W ∗ holds c arg6 X)
      ⊢ iprop(((∃ W', holds c tabM (tabOf c) ∗ doneRes c r ∗ owes (c : Thread nD τ) 0 W' ∗ holds c arg6 ((slabR (back c r.succ)).overlay X (outSlab m c (back c r.succ)))) -∗ Runs c k Q)
          -∗ Runs c (drainStep i h4 c arg6 r k) Q) := by
  unfold drainStep drainRes
  rw [outSlab_back]
  iintro ⟨#HR, Ht, ⟨Hcs, Hcr, Has, Har⟩, HO, Ho⟩ Hk
  iapply (runs_smem c _ _ _ (tabOf c)) $$ Ht
  iintro Ht
  iapply (runs_wait_send m κ c r W) $$ [Hcs HO Has]
  · isplitr; · iexact HR
    isplitl [Hcs]; · iexact Hcs
    isplitl [HO]; · iexact HO
    iexact Has
  iintro ⟨HO, Has, Hcomm⟩
  iapply (runs_wait_recv m κ c r _) $$ [Hcr HO Har]
  · isplitr; · iexact HR
    isplitl [Hcr]; · iexact Hcr
    isplitl [HO]; · iexact HO
    iexact Har
  iintro ⟨HO, Har, Hrb⟩
  unfold rbufFull
  iapply (runs_load_slice c rbufM (slabR r.succ) (slabR_stride r.succ) (wire m (back c r.succ) r.succ)) $$ Hrb
  iintro Hrb
  iapply (runs_read_in c arg6 (back c r.succ) _ (off7_back c r) _ X) $$ Ho
  iintro Ho
  iapply (runs_write_in c arg6 (back c r.succ) _ (off7_back c r) _ X) $$ Ho
  iintro Ho
  imod (Rounds.cell_close ER (sched m) (Set.mem_univ (κ (sendCell c r.succ))) (fun h => h) (R := 0 + 1) (duties_later m (sendCell c r.succ))) $$ [Has] with Hzs
  · isplitr; · iapply (recs_send m κ c r.succ); iexact HR
    iexact Has
  imod (Rounds.cell_close ER (sched m) (Set.mem_univ (κ (recvCell c r.succ))) (fun h => h) (R := 0 + 1) (duties_later m (recvCell c r.succ))) $$ [Har] with Hzr
  · isplitr; · iapply (recs_recv m κ c r.succ); iexact HR
    iexact Har
  iapply Hk
  iexists _
  isplitl [Ht]; · iexact Ht
  isplitl [Hcomm Hrb Hzs Hzr]
  · unfold doneRes rbufAny
    isplitl [Hcomm]; · iexact Hcomm
    isplitl [Hrb]; · iexists _; iexact Hrb
    isplitl [Hzs]; · iexact Hzs
    iexact Hzr
  isplitl [HO]; · iexact HO
  iexact Ho

/-- The drain fills in the slabs of its slots. -/
theorem runs_drain (κ : GSem nD τ sig → ℕ) (c : Dev nD) (i : grid0.Coords) (h4 : k0_cond4 i = 1#1) (arg6 : Memref sig .tc .vmem S4096x256 .f32)
    {Q : PUnit → sProp 𝕄} : ∀ (l : List (Fin 31)) (W : Waits sig Unit) (X : S4096x256.Idx → Elt F .f32) (hX : Filled m c l X),
    iprop(Recs m κ ∗ holds c tabM (tabOf c) ∗ bigSepL l (drainRes c) ∗ owes (c : Thread nD τ) 0 W ∗ holds c arg6 X)
      ⊢ iprop(((∃ W' X', ⌜Filled m c [] X'⌝ ∗ holds c tabM (tabOf c) ∗ bigSepL l (doneRes c) ∗ owes (c : Thread nD τ) 0 W' ∗ holds c arg6 X') -∗ Q ⟨⟩)
          -∗ Runs c (drain i h4 c arg6 l) Q)
  | [], W, X, hX => by
    unfold drain Runs
    rw [wp_ret]
    iintro ⟨-, Ht, He, HO, Ho⟩ Hk
    imodintro
    iapply Hk
    iexists W; iexists X
    isplitr; · ipureintro; exact hX
    isplitl [Ht]; · iexact Ht
    isplitl [He]; · iexact He
    isplitl [HO]; · iexact HO
    iexact Ho
  | r :: l, W, X, hX => by
    unfold drain
    rw [bigSepL_cons', bigSepL_cons']
    iintro ⟨#HR, Ht, ⟨Hr, Hl⟩, HO, Ho⟩ Hk
    iapply (runs_drainStep m κ c i h4 arg6 r W X) $$ [Ht Hr HO Ho]
    · isplitr; · iexact HR
      isplitl [Ht]; · iexact Ht
      isplitl [Hr]; · iexact Hr
      isplitl [HO]; · iexact HO
      iexact Ho
    iintro ⟨%W', Ht, Hd, HO, Ho⟩
    iapply (runs_drain κ c i h4 arg6 l W' _ (filled_step m c r l X hX)) $$ [Ht Hl HO Ho]
    · isplitr; · iexact HR
      isplitl [Ht]; · iexact Ht
      isplitl [Hl]; · iexact Hl
      isplitl [HO]; · iexact HO
      iexact Ho
    iintro ⟨%W'', %X', %hX', Ht, Hds, HO, Ho⟩
    iapply Hk
    iexists W''; iexists X'
    isplitr; · ipureintro; exact hX'
    isplitl [Ht]; · iexact Ht
    isplitl [Hd Hds]; · isplitl [Hd]; · iexact Hd
                        iexact Hds
    isplitl [HO]; · iexact HO
    iexact Ho

end Cert.KernelIdeal.Run

end
-- ==== Proof.KI.Data.lean ====
/-
What the pipeline's run keeps: the destination table every device computes, the windows' contents, and the state of the
exchange before each grid point.
-/
module

public import proofs.«01_k».proof.Proof.KI.Steps
public import proofs.«01_k».proof.Proof.Gen.KernelIdeal.Launch
public import Idealize.ShloMosaic.Lib.Pipeline.FrameBody

@[expose] public section

noncomputable section

namespace Cert.KernelIdeal.Run

open Cert.KernelIdeal Cert.KernelIdeal.Gen

open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table -/

/-- The prefetched table of device `c`. -/
def tabs (c : Dev nD) : pre0.Contents (Elt F) := fun k => match k with
  | ⟨0, _⟩ => tabOf (F := F) c

theorem coords_val (t : Fin grid0.N) : (grid0.coords t 0).val = t.val := by revert t; decide +kernel

theorem trans1_eq (c : Dev nD) (i : grid0.Coords) :
    cc0_transform_1 (F := F) k0_off1_inb numel1_S1 (tabs c) i = ![0, (c.val + (i 0).val) % 32] := by
  have h : (tabs (F := F) c).at 0 (Rect.unit (s := S32) (k0_off1 i) S1.size (k0_off1_inb i)) numel1_S1 = BitVec.ofNat 32 ((c.val + (i 0).val) % 32) :=
    tab_read c _ _ (k0_off1_eq i) _ _
  have h2 : cc0_transform_1 (F := F) k0_off1_inb numel1_S1 (tabs c) i
      = ![0, ((tabs (F := F) c).at 0 (Rect.unit (s := S32) (k0_off1 i) S1.size (k0_off1_inb i)) numel1_S1 : BitVec 32).toNat] := rfl
  rw [h2, h, BitVec.toNat_ofNat, Nat.mod_eq_of_lt (by omega)]

theorem tab_block (b : Fin 32) : ∃ h : (∀ a, ((![0, b.val] : Fin 2 → ℕ) a + 1) * S4096x256.size a ≤ S4096x8192.size a),
    EltTy.bits .fp8e4m3 = 32 ∨ (Rect.block (s := S4096x8192) S4096x256.size ![0, b.val] h).WholeWords (EltTy.packing .fp8e4m3) := by
  revert b; decide +kernel

theorem tabs_ok (c : Dev nD) : ok0 (F := F) (tabs c) := by
  unfold ok0
  intro i
  rw [trans1_eq]
  exact tab_block ⟨(c.val + (i 0).val) % 32, Nat.mod_lt _ (by decide)⟩

/-- The table, admissible. -/
def adm (c : Dev nD) (_ : Fin 1) : (pcfg0 (F := F)).Adm := ⟨tabs c, tabs_ok c⟩

/-- Device `c`'s pipeline. -/
abbrev cfgOf (F : FTy → Type) [FloatOps F] (c : Dev nD) : Pipeline.Cfg sig Λ₀ := Pipeline.pinD (pcfgs (F := F)) adm c 0

variable (m : (ℓ : Loc nD τ sig) → Buf (Elt F) ℓ)

/-! ## The exchange, point by point -/

/-- What a slot needs for its drain but the copy out's credit. -/
def waitRes (c : Dev nD) (r : Fin 31) : sProp 𝕄 :=
  iprop(cred (tallyAt (recvCell c r.succ) () N) ∗ atPos ER (sendCell c r.succ) 0 ∅ 0 ∗ atPos ER (recvCell c r.succ) 0 ∅ 0)

/-- A slot before the peers are heard from. -/
def newRes (c : Dev nD) (r : Fin 31) : sProp 𝕄 :=
  iprop(commAny c r.succ ∗ dutyTok ER (sendCell c r.succ) 0 0 ∗ reached ER (sendCell c r.succ) 0 ∗ dutyTok ER (recvCell (peer c r) r.succ) 0 0 ∗ waitRes c r)

/-- A slot yet to be sent. -/
def pendRes (c : Dev nD) (r : Fin 31) : sProp 𝕄 := iprop(commAny c r.succ ∗ readyRes c r ∗ waitRes c r)

/-- Slot 0, which no transfer uses. -/
def zeroRes (c : Dev nD) : sProp 𝕄 := iprop(commAny c 0 ∗ rbufAny c 0 ∗ semVal (sendCell c 0) 0 ∗ semVal (recvCell c 0) 0)

/-- What stands throughout. -/
def always (c : Dev nD) : sProp 𝕄 := iprop((∃ κ, Recs m κ) ∗ holds c tabM (tabOf c) ∗ zeroRes c)

/-- At entry, -/
def Φfirst (c : Dev nD) : sProp 𝕄 :=
  iprop(always m c ∗ levAts L lv ∗ (∃ X, holds c xbufM X) ∗ atPos ER (barCell c) 0 ∅ 0 ∗ cred (tallyAt (barCell c) () 31)
    ∗ bigSepL slots (sigRes c) ∗ bigSepL slots (newRes c))
/-- before point `n + 1`, -/
def Φmid (c : Dev nD) (n : ℕ) : sProp 𝕄 :=
  iprop(always m c ∗ holds c xbufM (xOf m c) ∗ atPos ER (barCell c) (0 + 1) ∅ 0 ∗ bigSepL (slots.take n) (drainRes c) ∗ bigSepL (slots.drop n) (pendRes c))
/-- at the end. -/
def Φlast (c : Dev nD) : sProp 𝕄 :=
  iprop(always m c ∗ holds c xbufM (xOf m c) ∗ atPos ER (barCell c) (0 + 1) ∅ 0 ∗ bigSepL slots (doneRes c))

/-- Before point `n`. -/
def Φn (c : Dev nD) : ℕ → sProp 𝕄
  | 0 => Φfirst m c
  | n + 1 => if n < 31 then Φmid m c n else Φlast m c

/-- What is owed before point `n`. -/
def owedAt (c : Dev nD) : ℕ → CellTallies nD τ sig Unit
  | 0 => O₀ c
  | n + 1 => landDues c (slots.drop n)

/-- The result window's slab of the device itself is in place. -/
def OwnIn (c : Dev nD) (X : S4096x256.Idx → Elt F .f32) : Prop := ∀ j, X ((slabR c).emb j) = ownPiece m c j

def rdat (c : Dev nD) : RDat τ (Elt F) Unit ℕ UU ℕ (cfgOf F c) c where
  A w := m (((cfgOf F c).win w).arr.view.loc (c : Thread nD τ))
  after w t Y X := match w with
    | ⟨0, _⟩ => X = Y
    | ⟨1, _⟩ => X = Y
    | ⟨2, _⟩ => X = Y
    | ⟨3, _⟩ => X = Y
    | ⟨4, _⟩ => if t.val < 31 then OwnIn m c X else Filled m c [] X
  Φ t := Φn m c t.val
  q _ := fullShare
  owed t := owedAt c t.val

/-! ## What the windows hold -/

section Fetched
variable (c : Dev nD) (t : Fin (cfgOf F c).N)

theorem fetched_x (d) : (rdat m c).fetched (0 : Fin 5) t d = xOf m c := by
  funext j
  have hm : ((cfgOf F c).win (0 : Fin 5)).moved ((cfgOf F c).grid.coords t) j = true := (((cfgOf F c).win (0 : Fin 5)).moved_iff _ j).mpr fun a => (j a).isLt
  unfold RDat.fetched Pipeline.Window.fill
  rw [dif_pos hm]
  show m _ _ = m _ _
  congr 1
  funext a; apply Fin.ext
  match a with
  | ⟨0, _⟩ => show 0 * 128 + 1 * (j 0).val = (j 0).val; omega
  | ⟨1, _⟩ => show 0 * 4096 + 1 * (j 1).val = (j 1).val; omega

theorem fetched_w (d) : (rdat m c).fetched (1 : Fin 5) t d = wOf m c ⟨t.val, t.isLt⟩ := by
  funext j
  have hm : ((cfgOf F c).win (1 : Fin 5)).moved ((cfgOf F c).grid.coords t) j = true := (((cfgOf F c).win (1 : Fin 5)).moved_iff _ j).mpr fun a => (j a).isLt
  unfold RDat.fetched Pipeline.Window.fill
  rw [dif_pos hm]
  show m _ _ = m _ _
  congr 1
  funext a; apply Fin.ext
  have h := trans1_eq (F := F) c (grid0.coords t)
  match a with
  | ⟨0, _⟩ =>
    show cc0_transform_1 (F := F) k0_off1_inb numel1_S1 (tabs c) (grid0.coords t) 0 * 4096 + 1 * (j 0).val = (j 0).val
    rw [h]; show 0 * 4096 + 1 * (j 0).val = (j 0).val; omega
  | ⟨1, _⟩ =>
    show cc0_transform_1 (F := F) k0_off1_inb numel1_S1 (tabs c) (grid0.coords t) 1 * 256 + 1 * (j 1).val = 256 * ((c.val + t.val) % 32) + (j 1).val
    rw [h]; show (c.val + (grid0.coords t 0).val) % 32 * 256 + 1 * (j 1).val = _
    rw [coords_val]; omega

theorem fetched_sx (d) : (rdat m c).fetched (2 : Fin 5) t d (Shape.Idx.first (s := S1) (numel1_S1.symm ▸ Nat.one_pos)) = sxOf m c := by
  have hm : ((cfgOf F c).win (2 : Fin 5)).moved ((cfgOf F c).grid.coords t) (Shape.Idx.first (s := S1) (numel1_S1.symm ▸ Nat.one_pos)) = true :=
    (((cfgOf F c).win (2 : Fin 5)).moved_iff _ _).mpr fun a => Fin.isLt _
  unfold RDat.fetched Pipeline.Window.fill
  rw [dif_pos hm]
  show m _ _ = m _ _
  congr 1
  funext a; apply Fin.ext
  match a with
  | ⟨0, _⟩ => rfl

theorem fetched_sw (d) : (rdat m c).fetched (3 : Fin 5) t d (Shape.Idx.first (s := S1) (numel1_S1.symm ▸ Nat.one_pos)) = swOf m c := by
  have hm : ((cfgOf F c).win (3 : Fin 5)).moved ((cfgOf F c).grid.coords t) (Shape.Idx.first (s := S1) (numel1_S1.symm ▸ Nat.one_pos)) = true :=
    (((cfgOf F c).win (3 : Fin 5)).moved_iff _ _).mpr fun a => Fin.isLt _
  unfold RDat.fetched Pipeline.Window.fill
  rw [dif_pos hm]
  show m _ _ = m _ _
  congr 1
  funext a; apply Fin.ext
  match a with
  | ⟨0, _⟩ => rfl

/-! ## What the body finds -/

variable (Y)

theorem finds_x (hY : (rdat m c).Finds (0 : Fin 5) t Y) : Y = xOf m c := by
  obtain ⟨d, rfl⟩ := RDat.finds_in_eq_fetched (rdat m c) (0 : Fin 5) rfl (fun _ _ _ => rfl) (fun _ _ _ h => h) t Y hY
  exact fetched_x m c t d

theorem finds_w (hY : (rdat m c).Finds (1 : Fin 5) t Y) : Y = wOf m c ⟨t.val, t.isLt⟩ := by
  obtain ⟨d, rfl⟩ := RDat.finds_in_eq_fetched (rdat m c) (1 : Fin 5) rfl (fun _ _ _ => rfl) (fun _ _ _ h => h) t Y hY
  exact fetched_w m c t d

theorem finds_sx (hY : (rdat m c).Finds (2 : Fin 5) t Y) : Y (Shape.Idx.first (s := S1) (numel1_S1.symm ▸ Nat.one_pos)) = sxOf m c := by
  obtain ⟨d, rfl⟩ := RDat.finds_in_eq_fetched (rdat m c) (2 : Fin 5) rfl (fun _ _ _ => rfl) (fun _ _ _ h => h) t Y hY
  exact fetched_sx m c t d

theorem finds_sw (hY : (rdat m c).Finds (3 : Fin 5) t Y) : Y (Shape.Idx.first (s := S1) (numel1_S1.symm ▸ Nat.one_pos)) = swOf m c := by
  obtain ⟨d, rfl⟩ := RDat.finds_in_eq_fetched (rdat m c) (3 : Fin 5) rfl (fun _ _ _ => rfl) (fun _ _ _ h => h) t Y hY
  exact fetched_sw m c t d

theorem fetch_out : ((cfgOf F c).win (4 : Fin 5)).fetch t = false := rfl

/-- The result is written back at the last point, -/
theorem flush_last (ht : t.val = 31) : ((cfgOf F c).win (4 : Fin 5)).flush t = true := by
  have hN : (cfgOf F c).grid.N = 32 := N_0
  unfold Pipeline.Window.flush
  have h : decide (t.val + 1 = (cfgOf F c).grid.N) = true := decide_eq_true (by omega)
  rw [h]; rfl

/-- and at no other. -/
theorem flush_early (ht : t.val < 31) : ((cfgOf F c).win (4 : Fin 5)).flush t = false := by
  have hN : (cfgOf F c).grid.N = 32 := N_0
  unfold Pipeline.Window.flush
  have h : decide (t.val + 1 = (cfgOf F c).grid.N) = false := decide_eq_false (by omega)
  have h' : decide (∃ h : t.val + 1 < (cfgOf F c).grid.N, ((cfgOf F c).win (4 : Fin 5)).index ⟨t.val + 1, h⟩ ≠ ((cfgOf F c).win (4 : Fin 5)).index t) = false :=
    decide_eq_false fun ⟨_, h⟩ => h rfl
  rw [h, h']; rfl

/-- Past the first point the result window holds the device's own slab. -/
theorem finds_out (ht : 0 < t.val) (hY : (rdat m c).Finds (4 : Fin 5) t Y) : OwnIn m c Y := by
  have hlt : t.val < 32 := t.isLt
  rcases (RDat.finds_of_pos (rdat m c) (w := (4 : Fin 5)) (t := t) (fetch_out c t) (by omega) Y).mp hY with h | ⟨Z, _, h⟩
  · rw [flush_early c _ (by show t.val - 1 < 31; omega)] at h; cases h
  · have h' : if t.val - 1 < 31 then OwnIn m c Y else Filled m c [] Y := h
    rw [if_pos (by omega)] at h'
    exact h'

/-- What the last point leaves. -/
theorem leaves_out (ht : t.val = 31) (hY : (rdat m c).Leaves (4 : Fin 5) t Y) : Filled m c [] Y := by
  obtain ⟨Z, _, h⟩ := hY
  have h' : if t.val < 31 then OwnIn m c Y else Filled m c [] Y := h
  rw [if_neg (by omega)] at h'
  exact h'

/-- Before the drain, everything but the drained slabs is in place. -/
theorem filled_of_own (X : S4096x256.Idx → Elt F .f32) (h : OwnIn m c X) : Filled m c slots X := by
  intro b hb j
  have hbc : b = c := by
    by_contra hne
    have h1 : b.val < 32 := b.isLt
    have h2 : c.val < 32 := c.isLt
    have h3 : b.val ≠ c.val := fun e => hne (Fin.ext e)
    have h4 : (c.val + 31 - b.val) % 32 < 31 := by omega
    refine hb ⟨_, h4⟩ (List.mem_finRange _) (Fin.ext ?_)
    show b.val = (c.val + (32 - ((c.val + 31 - b.val) % 32 + 1))) % 32
    omega
  subst hbc
  rw [h j, outSlab_own]

end Fetched

end Cert.KernelIdeal.Run

end
-- ==== Proof.KI.Body.lean ====
/-
The body, part by part and then point by point.
-/
module

public import proofs.«01_k».proof.Proof.KI.Data
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which parts run when -/

section Conds
variable (t : Fin grid0.N)

theorem cond1_iff : k0_cond1 (grid0.coords t) = 1#1 ↔ t.val = 0 := by revert t; decide +kernel
theorem cond2_iff : k0_cond2 (grid0.coords t) = 1#1 ↔ t.val = 0 := by revert t; decide +kernel
theorem cond3_iff : k0_cond3 (grid0.coords t) = 1#1 ↔ t.val ≠ 0 := by revert t; decide +kernel
theorem cond4_iff : k0_cond4 (grid0.coords t) = 1#1 ↔ t.val = 31 := by revert t; decide +kernel
end Conds

/-! ## The parts -/

theorem runs_bind (c : Dev nD) {α β : Type} (p : Prog (TpuEff nD τ sig (Elt F) Λ₀ .tc) α) (k : α → Prog (TpuEff nD τ sig (Elt F) Λ₀ .tc) β) (Q : β → sProp 𝕄) :
    Runs c p (fun x => Runs c (k x) Q) ⊢ Runs c (p.bind k) Q :=
  Entails.of_eq (wp_bind _ _ _ p k Q).symm

theorem runs_ret (c : Dev nD) {α : Type} (x : α) (Q : α → sProp 𝕄) : Q x ⊢ Runs c (.ret x) Q := by
  unfold Runs; rw [wp_ret]; iintro H; imodintro; iexact H

theorem runs_dev (c : Dev nD) {α : Type} (k : Dev nD → Prog (TpuEff nD τ sig (Elt F) Λ₀ .tc) α) (Q : α → sProp 𝕄) : Runs c (k c) Q ⊢ Runs c (.op .deviceId k) Q := by
  unfold Runs; rw [wp_deviceId]

theorem keep_pay (v : FVec F S128x4096 .fp8e4m3) : k0_pay4 v = v := by
  unfold k0_pay4
  exact (shapeCast_self _ _).trans (shapeCast_self _ _)

theorem runs_entryP (κ : GSem nD τ sig → ℕ) (c : Dev nD) (arg2 : Memref sig .tc .vmem S128x4096 .fp8e4m3) (X0 : S128x4096.Idx → Elt F .fp8e4m3)
    (W : Waits sig Unit) {Q : PUnit → sProp 𝕄} :
    iprop(Recs m κ ∗ levAts L lv ∗ holds c arg2 (xOf m c) ∗ holds c xbufM X0 ∗ atPos ER (barCell c) 0 ∅ 0 ∗ cred (tallyAt (barCell c) () 31)
        ∗ owes (c : Thread nD τ) (O₀ c) W ∗ bigSepL slots (sigRes c))
      ⊢ iprop(((∃ W', holds c arg2 (xOf m c) ∗ holds c xbufM (xOf m c) ∗ atPos ER (barCell c) (0 + 1) ∅ 0 ∗ owes (c : Thread nD τ) (landDues c slots) W'
          ∗ bigSepL slots fun r => barPay (peer c r) r.succ) -∗ Q ⟨⟩) -∗ Runs c (entryP c arg2) Q) := by
  unfold entryP
  iintro ⟨#HR, #Hlev, Hx, Hb, Hat, Hc, HO, Hs⟩ Hk
  iapply (runs_load c arg2 _ _) $$ Hx
  iintro Hx
  iapply (runs_load c xbufM _ _) $$ Hb
  iintro Hb
  iapply (runs_store c xbufM _ _) $$ Hb
  iintro Hb
  rw [read_all zero2, overlay_all zero2, keep_pay]
  iapply (runs_sigs m κ c (landDues c slots) W _ slots)
  isplitr; · iexact HR
  isplitl [HO]; · iexact HO
  isplitl [Hs]; · iexact Hs
  iintro HO
  iapply (runs_barrier m κ c W) $$ [Hc HO Hat]
  · isplitr; · iexact HR
    isplitl [Hc]; · iexact Hc
    isplitl [HO]; · iexact HO
    isplitr; · iexact Hlev
    iexact Hat
  iintro ⟨HO, Hat, Hp⟩
  iapply runs_ret
  iapply Hk
  iexists _
  isplitl [Hx]; · iexact Hx
  isplitl [Hb]; · iexact Hb
  isplitl [Hat]; · iexact Hat
  isplitl [HO]; · iexact HO
  iexact Hp

theorem runs_ownP (c : Dev nD) (i : grid0.Coords) (h2 : k0_cond2 i = 1#1) (arg6 : Memref sig .tc .vmem S4096x256 .f32) (X : S4096x256.Idx → Elt F .f32)
    {Q : PUnit → sProp 𝕄} :
    holds c arg6 X ⊢ iprop((∀ X', ⌜OwnIn m c X'⌝ -∗ holds c arg6 X' -∗ Q ⟨⟩) -∗ Runs c (ownP i h2 c arg6 (ownPiece m c)) Q) := by
  unfold ownP
  iintro Ho Hk
  iapply (runs_read_in c arg6 c _ (k0_off2_eq c) _ X) $$ Ho
  iintro Ho
  iapply (runs_write_in c arg6 c _ (k0_off2_eq c) _ X) $$ Ho
  iintro Ho
  iapply runs_ret
  iapply Hk
  · ipureintro; exact fun j => Rect.overlay_emb (slabR c) X (ownPiece m c) j
  iexact Ho

theorem runs_rest1 (c : Dev nD) (i : grid0.Coords) (arg3 : Memref sig .tc .vmem S4096x256 .fp8e4m3) (arg6 : Memref sig .tc .vmem S4096x256 .f32) (k : Fin 32)
    {Q : PUnit → sProp 𝕄} :
    iprop(holds c xbufM (xOf m c) ∗ holds c arg3 (wOf m c k))
      ⊢ iprop((holds c xbufM (xOf m c) -∗ holds c arg3 (wOf m c k) -∗
            Runs c (if h2 : k0_cond2 i = 1#1 then (ownP i h2 c arg6 (k0_pay1 (sxOf m c) (swOf m c) (xOf m c) (wOf m c k))).bind fun _ => rest2 i c arg6 (sxOf m c) (swOf m c) (xOf m c) (wOf m c k)
              else rest2 i c arg6 (sxOf m c) (swOf m c) (xOf m c) (wOf m c k)) Q)
          -∗ Runs c (rest1 i c arg3 arg6 (sxOf m c) (swOf m c)) Q) := by
  unfold rest1
  iintro ⟨Hx, Hw⟩ Hk
  iapply (runs_load c xbufM _ _) $$ Hx
  iintro Hx
  iapply (runs_load c arg3 _ _) $$ Hw
  iintro Hw
  rw [read_all zero2, read_all zero2]
  iapply Hk $$ Hx Hw

/-! ## The slots' states along the grid -/

theorem drop_slots (r : Fin 31) : slots.drop r.val = r :: slots.drop (r.val + 1) := by
  have h : r.val < slots.length := by unfold slots; rw [List.length_finRange]; exact r.isLt
  rw [List.drop_eq_getElem_cons h]
  congr 1
  unfold slots; rw [List.getElem_finRange]; rfl

theorem take_slots (r : Fin 31) : slots.take (r.val + 1) = slots.take r.val ++ [r] := by
  have h : r.val < slots.length := by unfold slots; rw [List.length_finRange]; exact r.isLt
  rw [List.take_succ_eq_append_getElem h]
  congr 2
  unfold slots; rw [List.getElem_finRange]; rfl

theorem pend_of_new (c : Dev nD) : ∀ l : List (Fin 31), iprop((bigSepL l fun r => barPay (F := F) (peer c r) r.succ) ∗ bigSepL l (newRes c)) ⊢ bigSepL l (pendRes c)
  | [] => by rw [bigSepL_nil, bigSepL_nil]; exact Idealize.SL.BI.sep_and.trans Idealize.SL.BI.and_elimL
  | r :: l => by
    rw [bigSepL_cons', bigSepL_cons', bigSepL_cons']
    iintro ⟨⟨Hp, Hps⟩, Hn, Hns⟩
    isplitl [Hp Hn]
    · unfold newRes pendRes readyRes
      icases Hn with ⟨Hc, Ht, Hr, Ht2, Hw⟩
      isplitl [Hc]; · iexact Hc
      isplitr [Hw]
      · isplitl [Hp]; · iexact Hp
        isplitl [Ht]; · iexact Ht
        isplitl [Hr]; · iexact Hr
        iexact Ht2
      iexact Hw
    iapply (pend_of_new c l)
    isplitl [Hps]; · iexact Hps
    iexact Hns

/-- The send of slot `r`, in the slots' states. -/
theorem runs_slot (κ : GSem nD τ sig → ℕ) (c : Dev nD) (i : grid0.Coords) (h3 : k0_cond3 i = 1#1) (r : Fin 31) (hi : (i 0).val = r.succ.val)
    (W : Waits sig Unit) {Q : PUnit → sProp 𝕄} (k : PUnit → Pr F) :
    iprop(Recs m κ ∗ holds c tabM (tabOf c) ∗ bigSepL (slots.take r.val) (drainRes c) ∗ bigSepL (slots.drop r.val) (pendRes c)
        ∗ owes (c : Thread nD τ) (landDues c (slots.drop r.val)) W)
      ⊢ iprop(((holds c tabM (tabOf c) ∗ bigSepL (slots.take (r.val + 1)) (drainRes c) ∗ bigSepL (slots.drop (r.val + 1)) (pendRes c)
          ∗ owes (c : Thread nD τ) (landDues c (slots.drop (r.val + 1))) W) -∗ Runs c (k ⟨⟩) Q)
        -∗ Runs c ((sendP i h3 (wire m c r.succ)).bind k) Q) := by
  rw [drop_slots, take_slots, bigSepL_append, bigSepL_cons', bigSepL_cons', bigSepL_nil]
  iintro ⟨#HR, Ht, Hd, ⟨Hr, Hp⟩, HO⟩ Hk
  unfold pendRes
  icases Hr with ⟨Hc, Hready, Hw⟩
  iapply (runs_sendP m κ c i h3 r hi (slots.drop (r.val + 1)) W k) $$ [Ht Hc Hready HO]
  · isplitr; · iexact HR
    isplitl [Hc]; · iexact Hc
    isplitl [Ht]; · iexact Ht
    isplitl [Hready]; · iexact Hready
    iexact HO
  iintro ⟨Ht, Hcs, HO⟩
  iapply Hk
  isplitl [Ht]; · iexact Ht
  isplitl [Hd Hcs Hw]
  · isplitl [Hd]; · iexact Hd
    isplitl
    · unfold drainRes waitRes
      icases Hw with ⟨Hcr, Has, Har⟩
      isplitl [Hcs]; · iexact Hcs
      isplitl [Hcr]; · iexact Hcr
      isplitl [Has]; · iexact Has
      iexact Har
    · iempintro
  isplitl [Hp]; · iexact Hp
  iexact HO

/-! ## The points -/

section Points
variable (c : Dev nD) (i : grid0.Coords) (arg2 : Memref sig .tc .vmem S128x4096 .fp8e4m3) (arg3 : Memref sig .tc .vmem S4096x256 .fp8e4m3)
  (arg4 arg5 : Memref sig .tc .smem S1 .f32) (arg6 : Memref sig .tc .vmem S4096x256 .f32)

/-- The body after its scales. -/
def afterP (d0 : Dev nD) (v3 v4 : Elt F .f32) : Pr F :=
  if h1 : k0_cond1 i = 1#1 then (entryP d0 arg2).bind fun _ => rest1 i d0 arg3 arg6 v3 v4 else rest1 i d0 arg3 arg6 v3 v4

/-- The body. -/
def bodyP : Pr F :=
  .op .deviceId fun d0 =>
    (smemLoad arg4 (Rect.unit (s := S1) ![0] S1.size inb_S1_S1_0) numel1_S1 rfl).bind fun v3 =>
    (smemLoad arg5 (Rect.unit (s := S1) ![0] S1.size inb_S1_S1_0) numel1_S1 rfl).bind fun v4 => afterP i arg2 arg3 arg6 d0 v3 v4

/-- The staging buffers of the inputs, as the body finds and leaves them. -/
def ins (k : Fin 32) (Y4 Y5 : S1.Idx → Elt F .f32) : sProp 𝕄 :=
  iprop(holds c arg2 (xOf m c) ∗ holds c arg3 (wOf m c k) ∗ holds c arg4 Y4 ∗ holds c arg5 Y5)

theorem s1_emb (o : Fin 1 → ℕ) (p : ∀ a, o a + S1.size a ≤ S1.size a) (x : S1.Idx) (y : S1.Idx) : (Rect.unit (s := S1) o S1.size p).emb x = y := by
  funext a; apply Fin.ext
  have h1 : ((Rect.unit (s := S1) o S1.size p).emb x a).val < S1.size a := ((Rect.unit (s := S1) o S1.size p).emb x a).isLt
  have h2 : (y a).val < S1.size a := (y a).isLt
  have h3 : S1.size a = 1 := by match a with | ⟨0, _⟩ => rfl
  omega

variable (Y4 Y5 : S1.Idx → Elt F .f32) (h4 : Y4 (Shape.Idx.first (s := S1) (numel1_S1.symm ▸ Nat.one_pos)) = sxOf m c)
  (h5 : Y5 (Shape.Idx.first (s := S1) (numel1_S1.symm ▸ Nat.one_pos)) = swOf m c)
include h4 h5

theorem runs_bodyP (k : Fin 32) {Q : PUnit → sProp 𝕄} :
    ins m c arg2 arg3 arg4 arg5 k Y4 Y5 ⊢ iprop((ins m c arg2 arg3 arg4 arg5 k Y4 Y5 -∗ Runs c (afterP i arg2 arg3 arg6 c (sxOf m c) (swOf m c)) Q)
      -∗ Runs c (bodyP i arg2 arg3 arg4 arg5 arg6) Q) := by
  unfold bodyP ins
  iintro ⟨H2, H3, H4, H5⟩ Hk
  iapply runs_dev
  iapply (runs_smem c _ _ _ Y4) $$ H4
  iintro H4
  iapply (runs_smem c _ _ _ Y5) $$ H5
  iintro H5
  rw [s1_emb _ _ _ (Shape.Idx.first (s := S1) (numel1_S1.symm ▸ Nat.one_pos)), h4, h5]
  iapply Hk
  isplitl [H2]; · iexact H2
  isplitl [H3]; · iexact H3
  isplitl [H4]; · iexact H4
  iexact H5

/-- The first point: the handshake and the device's own piece. -/
theorem runs_first (c1 : k0_cond1 i = 1#1) (c2 : k0_cond2 i = 1#1) (c3 : ¬ k0_cond3 i = 1#1) (c4 : ¬ k0_cond4 i = 1#1) (W : Waits sig Unit) (X : S4096x256.Idx → Elt F .f32)
    {Q : PUnit → sProp 𝕄} :
    iprop(Φfirst m c ∗ owes (c : Thread nD τ) (O₀ c) W ∗ ins m c arg2 arg3 arg4 arg5 0 Y4 Y5 ∗ holds c arg6 X)
      ⊢ iprop((∀ W' X', ⌜OwnIn m c X'⌝ -∗ Φmid m c 0 -∗ owes (c : Thread nD τ) (landDues c slots) W' -∗ ins m c arg2 arg3 arg4 arg5 0 Y4 Y5 -∗ holds c arg6 X' -∗ Q ⟨⟩)
        -∗ Runs c (bodyP i arg2 arg3 arg4 arg5 arg6) Q) := by
  iintro ⟨HΦ, HO, Hi, Ho⟩ Hk
  iapply (runs_bodyP m c i arg2 arg3 arg4 arg5 arg6 Y4 Y5 h4 h5 0) $$ Hi
  iintro Hi
  unfold ins afterP Φfirst always
  rw [dif_pos c1]
  icases Hi with ⟨H2, H3, H4, H5⟩
  icases HΦ with ⟨⟨⟨%κ, #HR⟩, Ht, Hz⟩, #Hlev, ⟨%X0, Hx⟩, Hat, Hc, Hs, Hn⟩
  iapply runs_bind
  iapply (runs_entryP m κ c arg2 X0 W) $$ [H2 Hx Hat Hc HO Hs]
  · isplitr; · iexact HR
    isplitr; · iexact Hlev
    isplitl [H2]; · iexact H2
    isplitl [Hx]; · iexact Hx
    isplitl [Hat]; · iexact Hat
    isplitl [Hc]; · iexact Hc
    isplitl [HO]; · iexact HO
    iexact Hs
  iintro ⟨%W', H2, Hx, Hat, HO, Hp⟩
  iapply (runs_rest1 m c i arg3 arg6 0) $$ [Hx H3]
  · isplitl [Hx]; · iexact Hx
    iexact H3
  iintro Hx H3
  rw [dif_pos c2]
  iapply runs_bind
  iapply (runs_ownP m c i c2 arg6 X) $$ Ho
  iintro %X' %hX' Ho
  unfold rest2 rest3
  rw [dif_neg c3, dif_neg c4]
  iapply runs_ret
  iapply Hk $$ %W' %X' %hX' [Ht Hz Hx Hat Hp Hn] HO [H2 H3 H4 H5] Ho
  · unfold Φmid always
    isplitl [Ht Hz]
    · isplitr; · iexists κ; iexact HR
      isplitl [Ht]; · iexact Ht
      iexact Hz
    isplitl [Hx]; · iexact Hx
    isplitl [Hat]; · iexact Hat
    isplitr
    · rw [List.take_zero, bigSepL_nil]; iempintro
    · rw [List.drop_zero]
      iapply (pend_of_new c slots)
      isplitl [Hp]; · iexact Hp
      iexact Hn
  · isplitl [H2]; · iexact H2
    isplitl [H3]; · iexact H3
    isplitl [H4]; · iexact H4
    iexact H5

/-- A later point, up to its send. -/
theorem runs_later (κ : GSem nD τ sig → ℕ) (r : Fin 31) (hi : (i 0).val = r.succ.val) (c1 : ¬ k0_cond1 i = 1#1) (c2 : ¬ k0_cond2 i = 1#1) (c3 : k0_cond3 i = 1#1) (W : Waits sig Unit)
    {Q : PUnit → sProp 𝕄} :
    iprop(Recs m κ ∗ holds c tabM (tabOf c) ∗ holds c xbufM (xOf m c) ∗ bigSepL (slots.take r.val) (drainRes c) ∗ bigSepL (slots.drop r.val) (pendRes c)
        ∗ owes (c : Thread nD τ) (landDues c (slots.drop r.val)) W ∗ ins m c arg2 arg3 arg4 arg5 r.succ Y4 Y5)
      ⊢ iprop(((holds c tabM (tabOf c) ∗ holds c xbufM (xOf m c) ∗ bigSepL (slots.take (r.val + 1)) (drainRes c) ∗ bigSepL (slots.drop (r.val + 1)) (pendRes c)
          ∗ owes (c : Thread nD τ) (landDues c (slots.drop (r.val + 1))) W ∗ ins m c arg2 arg3 arg4 arg5 r.succ Y4 Y5) -∗ Runs c (rest3 i c arg6) Q)
        -∗ Runs c (bodyP i arg2 arg3 arg4 arg5 arg6) Q) := by
  iintro ⟨#HR, Ht, Hx, Hd, Hp, HO, Hi⟩ Hk
  iapply (runs_bodyP m c i arg2 arg3 arg4 arg5 arg6 Y4 Y5 h4 h5 r.succ) $$ Hi
  iintro Hi
  unfold ins afterP
  rw [dif_neg c1]
  icases Hi with ⟨H2, H3, H4, H5⟩
  iapply (runs_rest1 m c i arg3 arg6 r.succ) $$ [Hx H3]
  · isplitl [Hx]; · iexact Hx
    iexact H3
  iintro Hx H3
  rw [dif_neg c2]
  unfold rest2
  rw [dif_pos c3]
  iapply (runs_slot m κ c i c3 r hi W) $$ [Ht Hd Hp HO]
  · isplitr; · iexact HR
    isplitl [Ht]; · iexact Ht
    isplitl [Hd]; · iexact Hd
    isplitl [Hp]; · iexact Hp
    iexact HO
  iintro ⟨Ht, Hd, Hp, HO⟩
  iapply Hk
  isplitl [Ht]; · iexact Ht
  isplitl [Hx]; · iexact Hx
  isplitl [Hd]; · iexact Hd
  isplitl [Hp]; · iexact Hp
  isplitl [HO]; · iexact HO
  isplitl [H2]; · iexact H2
  isplitl [H3]; · iexact H3
  isplitl [H4]; · iexact H4
  iexact H5

/-- A point between the first and the last. -/
theorem runs_mid (r : Fin 31) (hi : (i 0).val = r.succ.val) (c1 : ¬ k0_cond1 i = 1#1) (c2 : ¬ k0_cond2 i = 1#1) (c3 : k0_cond3 i = 1#1) (c4 : ¬ k0_cond4 i = 1#1)
    (W : Waits sig Unit) (X : S4096x256.Idx → Elt F .f32) {Q : PUnit → sProp 𝕄} :
    iprop(Φmid m c r.val ∗ owes (c : Thread nD τ) (landDues c (slots.drop r.val)) W ∗ ins m c arg2 arg3 arg4 arg5 r.succ Y4 Y5 ∗ holds c arg6 X)
      ⊢ iprop((∀ W', Φmid m c (r.val + 1) -∗ owes (c : Thread nD τ) (landDues c (slots.drop (r.val + 1))) W' -∗ ins m c arg2 arg3 arg4 arg5 r.succ Y4 Y5 -∗ holds c arg6 X -∗ Q ⟨⟩)
        -∗ Runs c (bodyP i arg2 arg3 arg4 arg5 arg6) Q) := by
  unfold Φmid always
  iintro ⟨⟨⟨⟨%κ, #HR⟩, Ht, Hz⟩, Hx, Hat, Hd, Hp⟩, HO, Hi, Ho⟩ Hk
  iapply (runs_later m c i arg2 arg3 arg4 arg5 arg6 Y4 Y5 h4 h5 κ r hi c1 c2 c3 W) $$ [Ht Hx Hd Hp HO Hi]
  · isplitr; · iexact HR
    isplitl [Ht]; · iexact Ht
    isplitl [Hx]; · iexact Hx
    isplitl [Hd]; · iexact Hd
    isplitl [Hp]; · iexact Hp
    isplitl [HO]; · iexact HO
    iexact Hi
  iintro ⟨Ht, Hx, Hd, Hp, HO, Hi⟩
  unfold rest3
  rw [dif_neg c4]
  iapply runs_ret
  iapply Hk $$ %W [Ht Hz Hx Hat Hd Hp] HO Hi Ho
  isplitl [Ht Hz]
  · isplitr; · iexists κ; iexact HR
    isplitl [Ht]; · iexact Ht
    iexact Hz
  isplitl [Hx]; · iexact Hx
  isplitl [Hat]; · iexact Hat
  isplitl [Hd]; · iexact Hd
  iexact Hp

/-- The last point: the last send, and the drain. -/
theorem runs_last (r : Fin 31) (hr : r.val = 30) (hi : (i 0).val = r.succ.val) (c1 : ¬ k0_cond1 i = 1#1) (c2 : ¬ k0_cond2 i = 1#1) (c3 : k0_cond3 i = 1#1) (c4 : k0_cond4 i = 1#1)
    (W : Waits sig Unit) (X : S4096x256.Idx → Elt F .f32) (hX : OwnIn m c X) {Q : PUnit → sProp 𝕄} :
    iprop(Φmid m c r.val ∗ owes (c : Thread nD τ) (landDues c (slots.drop r.val)) W ∗ ins m c arg2 arg3 arg4 arg5 r.succ Y4 Y5 ∗ holds c arg6 X)
      ⊢ iprop((∀ W' X', ⌜Filled m c [] X'⌝ -∗ Φlast m c -∗ owes (c : Thread nD τ) 0 W' -∗ ins m c arg2 arg3 arg4 arg5 r.succ Y4 Y5 -∗ holds c arg6 X' -∗ Q ⟨⟩)
        -∗ Runs c (bodyP i arg2 arg3 arg4 arg5 arg6) Q) := by
  have hall : slots.take (r.val + 1) = slots := by
    rw [hr]; exact List.take_of_length_le (by unfold slots; rw [List.length_finRange])
  have hnone : slots.drop (r.val + 1) = [] := by
    rw [hr]; exact List.drop_eq_nil_of_le (by unfold slots; rw [List.length_finRange])
  unfold Φmid Φlast always
  iintro ⟨⟨⟨⟨%κ, #HR⟩, Ht, Hz⟩, Hx, Hat, Hd, Hp⟩, HO, Hi, Ho⟩ Hk
  iapply (runs_later m c i arg2 arg3 arg4 arg5 arg6 Y4 Y5 h4 h5 κ r hi c1 c2 c3 W) $$ [Ht Hx Hd Hp HO Hi]
  · isplitr; · iexact HR
    isplitl [Ht]; · iexact Ht
    isplitl [Hx]; · iexact Hx
    isplitl [Hd]; · iexact Hd
    isplitl [Hp]; · iexact Hp
    isplitl [HO]; · iexact HO
    iexact Hi
  rw [hall, hnone]
  iintro ⟨Ht, Hx, Hd, -, HO, Hi⟩
  unfold rest3
  rw [dif_pos c4]
  iapply (runs_drain m κ c i c4 arg6 slots W X (filled_of_own m c X hX)) $$ [Ht Hd HO Ho]
  · isplitr; · iexact HR
    isplitl [Ht]; · iexact Ht
    isplitl [Hd]; · iexact Hd
    isplitl [HO]; · iexact HO
    iexact Ho
  iintro ⟨%W', %X', %hX', Ht, Hd, HO, Ho⟩
  iapply Hk $$ %W' %X' %hX' [Ht Hz Hx Hat Hd] HO Hi Ho
  isplitl [Ht Hz]
  · isplitr; · iexists κ; iexact HR
    isplitl [Ht]; · iexact Ht
    iexact Hz
  isplitl [Hx]; · iexact Hx
  isplitl [Hat]; · iexact Hat
  iexact Hd

end Points

/-! ## The body obligation -/

section Obligation
variable (c : Dev nD) (t : Fin (cfgOf F c).N)

/-- The pipeline's body at a point is the body on that point's staging buffers. -/
theorem prog_eq : defs₀ (F := F) .tc (cfgOf F c).body ((cfgOf F c).bodyArgs t ((cfgOf F c).slots t))
    = bodyP (grid0.coords t) (spec0_0.stage ((cfgOf F c).slots t (0 : Fin 5))) (spec0_1.stage ((cfgOf F c).slots t (1 : Fin 5))) (spec0_2.stage ((cfgOf F c).slots t (2 : Fin 5)))
        (spec0_3.stage ((cfgOf F c).slots t (3 : Fin 5))) (spec0_4.stage ((cfgOf F c).slots t (4 : Fin 5))) :=
  body_eq _ _ _ _ _ _ _ _ _ _ _ _ _ _ _

/-- The invariant and the debt, side by side. -/
def stateAt (n : ℕ) : sProp 𝕄 := iprop(Φn m c n ∗ ∃ W, owes (c : Thread nD τ) (owedAt c n) W)

theorem Φn_succ (n : ℕ) : Φn m c (n + 1) = if n < 31 then Φmid m c n else Φlast m c := rfl

/-- One point, from its state to the next one's. -/
theorem runs_point (arg2 : Memref sig .tc .vmem S128x4096 .fp8e4m3) (arg3 : Memref sig .tc .vmem S4096x256 .fp8e4m3)
    (arg4 arg5 : Memref sig .tc .smem S1 .f32) (arg6 : Memref sig .tc .vmem S4096x256 .f32)
    (Y4 Y5 : S1.Idx → Elt F .f32) (h4 : Y4 (Shape.Idx.first (s := S1) (numel1_S1.symm ▸ Nat.one_pos)) = sxOf m c)
    (h5 : Y5 (Shape.Idx.first (s := S1) (numel1_S1.symm ▸ Nat.one_pos)) = swOf m c) (t : Fin 32)
    (X : S4096x256.Idx → Elt F .f32) (hX : 0 < t.val → OwnIn m c X) {Q : PUnit → sProp 𝕄} :
    iprop(stateAt m c t.val ∗ ins m c arg2 arg3 arg4 arg5 t Y4 Y5 ∗ holds c arg6 X)
      ⊢ iprop((∀ X', ⌜if t.val < 31 then OwnIn m c X' else Filled m c [] X'⌝ -∗ stateAt m c (t.val + 1) -∗ ins m c arg2 arg3 arg4 arg5 t Y4 Y5 -∗ holds c arg6 X' -∗ Q ⟨⟩)
        -∗ Runs c (bodyP (grid0.coords t) arg2 arg3 arg4 arg5 arg6) Q) := by
  have hlt : t.val < 32 := t.isLt
  rcases Nat.eq_zero_or_pos t.val with h0 | hpos
  · have ht : t = 0 := Fin.ext h0
    subst ht
    have hs : Φn m c (0 : Fin 32).val = Φfirst m c := rfl
    have hs' : Φn m c ((0 : Fin 32).val + 1) = Φmid m c 0 := (Φn_succ m c 0).trans (if_pos (by decide))
    unfold stateAt
    rw [hs, hs']
    iintro ⟨⟨HΦ, %W, HO⟩, Hi, Ho⟩ Hk
    iapply (runs_first m c _ arg2 arg3 arg4 arg5 arg6 Y4 Y5 h4 h5 ((cond1_iff _).mpr rfl) ((cond2_iff _).mpr rfl) (fun h => (cond3_iff _).mp h rfl)
      (fun h => absurd ((cond4_iff _).mp h) (by decide)) W X) $$ [HΦ HO Hi Ho]
    · isplitl [HΦ]; · iexact HΦ
      isplitl [HO]; · iexact HO
      isplitl [Hi]; · iexact Hi
      iexact Ho
    iintro %W' %X' %hX' HΦ HO Hi Ho
    iapply Hk $$ %X' [] [HΦ HO] Hi Ho
    · ipureintro; exact (if_pos (by decide)).mpr hX'
    isplitl [HΦ]; · iexact HΦ
    iexists W'; iexact HO
  · obtain ⟨r, hr⟩ : ∃ r : Fin 31, t = r.succ := ⟨⟨t.val - 1, by omega⟩, Fin.ext (by show t.val = t.val - 1 + 1; omega)⟩
    subst hr
    have c1 : ¬ k0_cond1 (grid0.coords r.succ) = 1#1 := fun h => absurd ((cond1_iff _).mp h) (by rw [Fin.val_succ]; omega)
    have c2 : ¬ k0_cond2 (grid0.coords r.succ) = 1#1 := fun h => absurd ((cond2_iff _).mp h) (by rw [Fin.val_succ]; omega)
    have c3 : k0_cond3 (grid0.coords r.succ) = 1#1 := (cond3_iff _).mpr (by rw [Fin.val_succ]; omega)
    have hi : (grid0.coords r.succ 0).val = r.succ.val := coords_val _
    have hs : Φn m c r.succ.val = Φmid m c r.val := by rw [Fin.val_succ]; exact if_pos r.isLt
    have ho : owedAt c r.succ.val = landDues c (slots.drop r.val) := by rw [Fin.val_succ]; rfl
    have ho' : owedAt c (r.succ.val + 1) = landDues c (slots.drop (r.val + 1)) := by rw [Fin.val_succ]; rfl
    unfold stateAt
    rw [hs, ho, ho']
    iintro ⟨⟨HΦ, %W, HO⟩, Hi, Ho⟩ Hk
    by_cases hl : r.val = 30
    · have hs' : Φn m c (r.succ.val + 1) = Φlast m c := if_neg (by rw [Fin.val_succ]; omega)
      have hn : slots.drop (r.val + 1) = [] := by rw [hl]; exact List.drop_eq_nil_of_le (by unfold slots; rw [List.length_finRange])
      rw [hs', hn]
      iapply (runs_last m c _ arg2 arg3 arg4 arg5 arg6 Y4 Y5 h4 h5 r hl hi c1 c2 c3 ((cond4_iff _).mpr (by rw [Fin.val_succ]; omega)) W X (hX hpos)) $$ [HΦ HO Hi Ho]
      · isplitl [HΦ]; · iexact HΦ
        isplitl [HO]; · iexact HO
        isplitl [Hi]; · iexact Hi
        iexact Ho
      iintro %W' %X' %hX' HΦ HO Hi Ho
      iapply Hk $$ %X' [] [HΦ HO] Hi Ho
      · ipureintro; rw [if_neg (by rw [Fin.val_succ]; omega)]; exact hX'
      isplitl [HΦ]; · iexact HΦ
      iexists W'; iexact HO
    · have hr31 : r.val < 31 := r.isLt
      have hs' : Φn m c (r.succ.val + 1) = Φmid m c (r.val + 1) := by rw [Fin.val_succ]; exact if_pos (by omega)
      rw [hs']
      iapply (runs_mid m c _ arg2 arg3 arg4 arg5 arg6 Y4 Y5 h4 h5 r hi c1 c2 c3 (fun h => absurd ((cond4_iff _).mp h) (by rw [Fin.val_succ]; omega)) W X) $$ [HΦ HO Hi Ho]
      · isplitl [HΦ]; · iexact HΦ
        isplitl [HO]; · iexact HO
        isplitl [Hi]; · iexact Hi
        iexact Ho
      iintro %W' HΦ HO Hi Ho
      iapply Hk $$ %X [] [HΦ HO] Hi Ho
      · ipureintro; rw [if_pos (by rw [Fin.val_succ]; omega)]; exact hX hpos
      isplitl [HΦ]; · iexact HΦ
      iexists W'; iexact HO

theorem Φ_before : (rdat m c).Φ t.castSucc = Φn m c t.val := rfl
theorem Φ_after : (rdat m c).Φ t.succ = Φn m c (t.val + 1) := rfl

theorem owesAt_elim (n : Fin ((cfgOf F c).N + 1)) : (rdat m c).owesAt () n ⊢ iprop(∃ W, owes (c : Thread nD τ) (owedAt c n.val) W) := by
  unfold RDat.owesAt Pipeline.owesWithin
  iintro ⟨%W, -, H⟩
  iexists W; iexact H

theorem owesAt_intro (n : Fin ((cfgOf F c).N + 1)) : iprop(∃ W, owes (c : Thread nD τ) (owedAt c n.val) W) ⊢ (rdat m c).owesAt () n := by
  unfold RDat.owesAt Pipeline.owesWithin
  iintro ⟨%W, H⟩
  iexists W
  isplitr; · ipureintro; exact fun _ _ => Or.inl trivial
  iexact H

end Obligation

theorem body_obligation (c : Dev nD) : (rdat m c).BodyObligation (defs₀ (F := F)) 𝒱₀ () Set.univ := by
  intro t Y hY
  have hx := finds_x m c t _ (hY (0 : Fin 5))
  have hw := finds_w m c t _ (hY (1 : Fin 5))
  have hsx := finds_sx m c t _ (hY (2 : Fin 5))
  have hsw := finds_sw m c t _ (hY (3 : Fin 5))
  have ho : 0 < t.val → OwnIn m c (Y (4 : Fin 5)) := fun h => finds_out m c t _ h (hY (4 : Fin 5))
  rw [prog_eq, Φ_before, Φ_after]
  erw [bigSep_W0, bigSep_W0]
  iintro ⟨HΦ, HO, H2, H3, H4, H5, H6⟩
  ihave HO := (owesAt_elim m c t.castSucc) $$ HO
  iapply (runs_point m c _ _ _ _ _ (Y (2 : Fin 5)) (Y (3 : Fin 5)) hsx hsw ⟨t.val, t.isLt⟩ (Y (4 : Fin 5)) ho) $$ [HΦ HO H2 H3 H4 H5 H6]
  · isplitl [HΦ HO]
    · unfold stateAt
      isplitl [HΦ]; · iexact HΦ
      iexact HO
    isplitl [H2 H3 H4 H5]
    · unfold ins
      rw [← hx, ← hw]
      isplitl [H2]; · iexact H2
      isplitl [H3]; · iexact H3
      isplitl [H4]; · iexact H4
      iexact H5
    iexact H6
  iintro %X' %hX' Hs Hi Ho
  unfold stateAt ins
  rw [← hx, ← hw]
  icases Hs with ⟨HΦ, HO⟩
  icases Hi with ⟨H2, H3, H4, H5⟩
  isplitl [HΦ]; · iexact HΦ
  isplitl [HO]; · iapply (owesAt_intro m c t.succ); iexact HO
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  iexists X'
  isplitr; · ipureintro; exact hX'
  iexact Ho

end Cert.KernelIdeal.Run

end
-- ==== Proof.KI.Deal.lean ====
/-
Sharing out: a family over the slots is slot 0's member and the others', a buffer of row slabs is its slabs, and what the
devices owe, summed, is what each of them waits for.
-/
module

public import proofs.«01_k».proof.Proof.KI.Data

@[expose] public section

noncomputable section

namespace Cert.KernelIdeal.Run

open Cert.KernelIdeal Cert.KernelIdeal.Gen

open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

theorem slots_all (Φ : Fin 31 → sProp 𝕄) : bigSep Finset.univ Φ = bigSepL slots Φ :=
  bigSep_univ_eq_bigSepL slots (List.toFinset_finRange 31).symm (List.nodup_finRange 31) Φ

/-- Two families over the slots, side by side. -/
theorem slots_sep (Φ Ψ : Fin 31 → sProp 𝕄) : bigSepL slots (fun r => iprop(Φ r ∗ Ψ r)) = iprop(bigSepL slots Φ ∗ bigSepL slots Ψ) := by
  rw [← slots_all, ← slots_all, ← slots_all]; exact bigSep_sep' _ _ _

/-- A family over the slots, the slots taken backwards. -/
theorem slots_rev (Φ : Fin 31 → sProp 𝕄) : bigSepL slots Φ = bigSepL slots fun r => Φ r.rev := by
  rw [← slots_all, ← slots_all]; exact bigSep_univ_equiv Fin.revPerm Φ

theorem all_slots (Φ : Fin 32 → sProp 𝕄) : bigSep Finset.univ Φ = iprop(Φ 0 ∗ bigSepL slots fun r => Φ r.succ) := by
  rw [bigSep_univ_eq_bigSepL (List.finRange 32) (List.toFinset_finRange 32).symm (List.nodup_finRange 32), List.finRange_succ,
    bigSepL_cons', bigSepL_map]

theorem bools (Φ : Bool → sProp 𝕄) : bigSep Finset.univ Φ = iprop(Φ false ∗ Φ true) := by
  rw [bigSep_univ_eq_bigSepL [false, true] (by decide) (by decide)]; rfl

/-- The sends and the receives: slot 0's two, then each other slot's two. -/
theorem own_split (Φ : Bool × Fin 32 → sProp 𝕄) : bigSep Finset.univ Φ
    = iprop((Φ (false, 0) ∗ Φ (true, 0)) ∗ bigSepL slots fun r => iprop(Φ (false, r.succ) ∗ Φ (true, r.succ))) := by
  rw [bigSep_univ_prod, bools, all_slots, all_slots, slots_sep]
  exact BI.Entails.antisymm
    (show _ ⊢ (_ : sProp 𝕄) by iintro ⟨⟨H1, H2⟩, H3, H4⟩; isplitl [H1 H3]; · (isplitl [H1] <;> iassumption)
                               isplitl [H2] <;> iassumption)
    (show _ ⊢ (_ : sProp 𝕄) by iintro ⟨⟨H1, H3⟩, H2, H4⟩; isplitl [H1 H2]; · (isplitl [H1] <;> iassumption)
                               isplitl [H3] <;> iassumption)

/-- A persistent fact handed to every member of a family. -/
theorem share_out {I : Type} [DecidableEq I] (S : Finset I) (R : sProp 𝕄) [Persistent R] (Φ : I → sProp 𝕄) :
    iprop(R ∗ bigSep S Φ) ⊢ bigSep S fun i => iprop(R ∗ Φ i) := by
  rw [bigSep_sep']
  exact sep_mono (bigSep_of_persistent S R) .rfl

/-! ## Slabs -/

theorem comm_split (c : Dev nD) (f : S4096x256.Idx → Elt F .bf16) :
    (((c : Thread nD τ).loc cc0_scratch1) ↦{fullShare} f : sProp 𝕄) ⊢ iprop(commAny c 0 ∗ bigSepL slots fun r => commAny c r.succ) := by
  rw [← owns_whole (c : Thread nD τ) cc0_scratch1 fullShare f, ← all_slots fun k => commAny (F := F) c k]
  refine (owns_rects (c : Thread nD τ) commM fullShare slabR slabR_stride slabR_disjoint slabR_cover f).trans (bigSep_mono fun k _ => ?_)
  show _ ⊢ (_ : sProp 𝕄)
  unfold commAny
  iintro H; iexists _; iexact H

theorem rbuf_split (c : Dev nD) (f : S4096x256.Idx → Elt F .bf16) :
    (((c : Thread nD τ).loc cc0_scratch2) ↦{fullShare} f : sProp 𝕄) ⊢ iprop(rbufAny c 0 ∗ bigSepL slots fun r => rbufAny c r.succ) := by
  rw [← owns_whole (c : Thread nD τ) cc0_scratch2 fullShare f, ← all_slots fun k => rbufAny (F := F) c k]
  refine (owns_rects (c : Thread nD τ) rbufM fullShare slabR slabR_stride slabR_disjoint slabR_cover f).trans (bigSep_mono fun k _ => ?_)
  show _ ⊢ (_ : sProp 𝕄)
  unfold rbufAny
  iintro H; iexists _; iexact H

theorem comm_join (c : Dev nD) :
    iprop(commAny c 0 ∗ bigSepL slots fun r => commAny c r.succ) ⊢ (iprop(∃ f, ((c : Thread nD τ).loc cc0_scratch1) ↦{fullShare} f) : sProp 𝕄) := by
  rw [← all_slots fun k => commAny (F := F) c k]
  have hx : (bigSep Finset.univ fun k : Fin 32 => commAny (F := F) c k)
      ⊢ iprop(∃ Xs : Fin 32 → S128x256.Idx → Elt F .bf16, bigSep Finset.univ fun k => owns (c : Thread nD τ) (commS k) fullShare (Xs k)) :=
    @bigSep_exists_pi _ _ _ _ (fun _ => S128x256.Idx → Elt F .bf16) (fun _ => ⟨fun _ => (Elt.inhabited F .bf16).default⟩) Finset.univ _
  refine hx.trans ?_
  iintro ⟨%Xs, H⟩
  iexists (Rect.glue slabR slabR_cover Xs : S4096x256.Idx → Elt F .bf16)
  rw [← owns_whole (c : Thread nD τ) cc0_scratch1 fullShare]
  iapply (owns_of_rects (c : Thread nD τ) commM fullShare slabR slabR_stride slabR_disjoint slabR_cover (Rect.glue slabR slabR_cover Xs))
  have hg (k : Fin 32) : (fun j => Rect.glue slabR slabR_cover Xs ((slabR k).emb j)) = Xs k :=
    funext fun j => Rect.glue_emb slabR slabR_cover slabR_disjoint Xs k j
  have hm : (bigSep Finset.univ fun k => owns (c : Thread nD τ) (commS k) fullShare (Xs k) : sProp 𝕄)
      ⊢ bigSep Finset.univ fun k => owns (c : Thread nD τ) (commM.slice (slabR k) (slabR_stride k)) fullShare fun j => Rect.glue slabR slabR_cover Xs ((slabR k).emb j) :=
    bigSep_mono fun k _ => Entails.of_eq (congrArg (fun X => owns (c : Thread nD τ) (commS k) fullShare X) (hg k).symm)
  iapply hm
  iexact H

theorem rbuf_join (c : Dev nD) :
    iprop(rbufAny c 0 ∗ bigSepL slots fun r => rbufAny c r.succ) ⊢ (iprop(∃ f, ((c : Thread nD τ).loc cc0_scratch2) ↦{fullShare} f) : sProp 𝕄) := by
  rw [← all_slots fun k => rbufAny (F := F) c k]
  have hx : (bigSep Finset.univ fun k : Fin 32 => rbufAny (F := F) c k)
      ⊢ iprop(∃ Xs : Fin 32 → S128x256.Idx → Elt F .bf16, bigSep Finset.univ fun k => owns (c : Thread nD τ) (rbufS k) fullShare (Xs k)) :=
    @bigSep_exists_pi _ _ _ _ (fun _ => S128x256.Idx → Elt F .bf16) (fun _ => ⟨fun _ => (Elt.inhabited F .bf16).default⟩) Finset.univ _
  refine hx.trans ?_
  iintro ⟨%Xs, H⟩
  iexists (Rect.glue slabR slabR_cover Xs : S4096x256.Idx → Elt F .bf16)
  rw [← owns_whole (c : Thread nD τ) cc0_scratch2 fullShare]
  iapply (owns_of_rects (c : Thread nD τ) rbufM fullShare slabR slabR_stride slabR_disjoint slabR_cover (Rect.glue slabR slabR_cover Xs))
  have hg (k : Fin 32) : (fun j => Rect.glue slabR slabR_cover Xs ((slabR k).emb j)) = Xs k :=
    funext fun j => Rect.glue_emb slabR slabR_cover slabR_disjoint Xs k j
  have hm : (bigSep Finset.univ fun k => owns (c : Thread nD τ) (rbufS k) fullShare (Xs k) : sProp 𝕄)
      ⊢ bigSep Finset.univ fun k => owns (c : Thread nD τ) (rbufM.slice (slabR k) (slabR_stride k)) fullShare fun j => Rect.glue slabR slabR_cover Xs ((slabR k).emb j) :=
    bigSep_mono fun k _ => Entails.of_eq (congrArg (fun X => owns (c : Thread nD τ) (rbufS k) fullShare X) (hg k).symm)
  iapply hm
  iexact H

/-! ## What is owed and what is waited for -/

/-- What device `c` waits for. -/
def dueOf (c : Dev nD) : CellTallies nD τ sig Unit := (∑ r : Fin 31, tallyAt (recvCell c r.succ) () N) + tallyAt (barCell c) () 31

theorem landDues_all (c : Dev nD) : landDues c slots = ∑ r : Fin 31, tallyAt (recvCell (peer c r) r.succ) () N := (Fin.sum_univ_def _).symm
theorem barDues_all (c : Dev nD) : barDues c slots = ∑ r : Fin 31, tallyAt (barCell (peer c r)) () 1 := (Fin.sum_univ_def _).symm

theorem units (g : GSem nD τ sig) (n : ℕ) : (∑ _r : Fin n, (tallyAt g () 1 : CellTallies nD τ sig Unit)) = tallyAt g () n := by
  induction n with
  | zero => rw [Fin.sum_univ_zero, tallyAt_zero]
  | succ n ih => rw [Fin.sum_univ_castSucc, ih, tallyAt_add]

/-- Summed over the devices, what goes to each peer is what comes to each device. -/
theorem hops (T : Fin 31 → Dev nD → CellTallies nD τ sig Unit) : (∑ d, ∑ r, T r (peer d r)) = ∑ d, ∑ r, T r d := by
  rw [Finset.sum_comm (f := fun d r => T r (peer d r)), Finset.sum_comm (f := fun d r => T r d)]
  exact Finset.sum_congr rfl fun r _ => (hop r).sum_comp (T r)

theorem dues_sum : (∑ d : Dev nD, O₀ d) = ∑ d : Dev nD, dueOf d := by
  unfold O₀ dueOf
  rw [Finset.sum_add_distrib, Finset.sum_add_distrib]
  congr 1
  · rw [Finset.sum_congr rfl fun d _ => landDues_all d]
    exact hops fun r d => tallyAt (recvCell d r.succ) () N
  · rw [Finset.sum_congr rfl fun d _ => barDues_all d, Finset.sum_congr (s₁ := Finset.univ) rfl fun d _ => (units (barCell d) 31).symm]
    exact hops fun _ d => tallyAt (barCell d) () 1

theorem due_core (d : Dev nD) (g : GSem nD τ sig) (h : dueOf d g ≠ 0) : g.1 = (d.tc : Thread nD τ) := by
  by_contra hne
  refine h ?_
  unfold dueOf
  have h0 (sm : SemLoc sig) (n : ℕ) : (tallyAt ((d : Thread nD τ), sm) () n : CellTallies nD τ sig Unit) g = 0 := by
    unfold tallyAt tallyOn
    exact Pi.single_eq_of_ne (fun e => hne (congrArg Prod.fst e)) _
  rw [Pi.add_apply, Finset.sum_apply, Finset.sum_eq_zero (fun r _ => h0 _ _), h0, add_zero]

/-- Each device's launch credit is what it waits for. -/
theorem launch_credit (c : Dev nD) : (Pipeline.launchCred O₀ c : sProp 𝕄)
    ⊢ iprop((bigSepL slots fun r => cred (tallyAt (recvCell c r.succ) () N)) ∗ cred (tallyAt (barCell c) () 31)) := by
  rw [Pipeline.launchCred_of_sum O₀ dueOf dues_sum due_core c]
  unfold dueOf
  refine (cred_add _ _).1.trans (sep_mono ?_ .rfl)
  rw [Pipeline.cred_finsetSum, slots_all]

end Cert.KernelIdeal.Run

end
-- ==== Proof.KI.Table.lean ====
/-
The table the host builds before the region: entry `d` of device `c`'s is `(c + d) mod 32`.
-/
module

public import proofs.«01_k».proof.Proof.KI.Deal
public import proofs.«01_k».proof.Proof.Gen.KernelIdeal.Regions

@[expose] public section

noncomputable section

namespace Cert.KernelIdeal.Run

open Cert.KernelIdeal Cert.KernelIdeal.Gen

open Idealize.ShloMosaic
open Idealize.ShloMosaic.TcCoe

variable {F : FTy → Type} [FloatOps F]

variable (m : (ℓ : Loc nD τ sig) → Buf (Elt F) ℓ)

/-- One entry's arithmetic. -/
def entryW (c d : Fin 32) : BitVec 32 :=
  IntOp.remsi .host (IntOp.remui .host (IntOp.divui .host (BitVec.ofNat 32 c.val) 1#32) 32#32 + BitVec.ofNat 32 d.val) 32#32

theorem entryW_eq : ∀ c d : Fin 32, entryW c d = BitVec.ofNat 32 ((c.val + d.val) % 32) := by decide +kernel

theorem table_eq (c : Dev nD) : Gen.V1 m c main_v9 = tabOf (F := F) c := by
  show StableHlo.after (Gen.hostOps0 c) (Gen.V0 m c) (Proc.devRef .tc main_v9) = _
  after_results
  funext d
  exact entryW_eq c (d (0 : Fin 1))

end Cert.KernelIdeal.Run

end
-- ==== Proof.KI.Region.lean ====
/-
The kernel's region: what it is entered with, sorted into the exchange's first state, and what its last state gives back.
-/
module

public import proofs.«01_k».proof.Proof.KI.Body
public import proofs.«01_k».proof.Proof.KI.Table
public import Idealize.ShloMosaic.Lib.Rounds.Family

@[expose] public section

noncomputable section

namespace Cert.KernelIdeal.Run

open Cert.KernelIdeal Cert.KernelIdeal.Gen

open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the slots -/

theorem slots_zip (Φ Ψ Θ : Fin 31 → sProp 𝕄) (h : ∀ r, iprop(Φ r ∗ Ψ r) ⊢ Θ r) : iprop(bigSepL slots Φ ∗ bigSepL slots Ψ) ⊢ bigSepL slots Θ := by
  rw [← slots_sep]; exact bigSepL_mono fun r _ => h r

theorem slots_unzip (Φ Ψ Θ : Fin 31 → sProp 𝕄) (h : ∀ r, Θ r ⊢ iprop(Φ r ∗ Ψ r)) : bigSepL slots Θ ⊢ iprop(bigSepL slots Φ ∗ bigSepL slots Ψ) := by
  rw [← slots_sep]; exact bigSepL_mono fun r _ => h r

/-! ## What a device is dealt -/

/-- For the signal to a peer, -/
def barGift (c : Dev nD) (r : Fin 31) : sProp 𝕄 := iprop(dutyTok ER (barCell (peer c r)) 0 r.rev ∗ reached ER (barCell (peer c r)) 0)
/-- for a slot's transfer, -/
def slotGift (c : Dev nD) (r : Fin 31) : sProp 𝕄 :=
  iprop(dutyTok ER (sendCell c r.succ) 0 0 ∗ dutyTok ER (recvCell (peer c r) r.succ) 0 0 ∗ cred (tallyAt (recvCell c r.succ) () N))
/-- and in all. -/
def Rg (c : Dev nD) : sProp 𝕄 :=
  iprop((∃ κ, Recs m κ) ∗ (bigSep Finset.univ fun x => openTok ER (ownCell c x)) ∗ atPos ER (barCell c) 0 ∅ 0 ∗ cred (tallyAt (barCell c) () 31)
    ∗ bigSepL slots (barGift c) ∗ bigSepL slots (slotGift c))

/-- A slot's two cells, opened: what stays with the device's own waits, -/
def openedRes (c : Dev nD) (r : Fin 31) : sProp 𝕄 :=
  iprop(atPos ER (sendCell c r.succ) 0 ∅ 0 ∗ reached ER (sendCell c r.succ) 0 ∗ atPos ER (recvCell c r.succ) 0 ∅ 0)

/-- What the exchange is entered with beside the table and the scratch. -/
def enterRes (c : Dev nD) : sProp 𝕄 :=
  iprop((∃ κ, Recs m κ) ∗ levAts L lv ∗ (semVal (sendCell c 0) 0 ∗ semVal (recvCell c 0) 0) ∗ atPos ER (barCell c) 0 ∅ 0 ∗ cred (tallyAt (barCell c) () 31)
    ∗ bigSepL slots (barGift c) ∗ bigSepL slots (slotGift c) ∗ bigSepL slots (openedRes c) ∗ bigSepL slots fun r => reached ER (recvCell c r.succ) 0)

section
variable (c : Dev nD)

theorem own_invs (κ : GSem nD τ sig → ℕ) :
    iprop(Recs m κ ∗ bigSep Finset.univ fun x => openTok ER (ownCell c x))
      ⊢ bigSep Finset.univ fun x => iprop(cellInv ER (sched m) (κ (ownCell c x)) (ownCell c x) ∗ openTok ER (ownCell c x)) :=
  (share_out Finset.univ (Recs m κ) _).trans (bigSep_mono fun x _ => sep_mono (recs_own m κ c x) .rfl)

/-- The device's own cells, opened; slot 0's, closed again. -/
theorem open_own (κ : GSem nD τ sig → ℕ) :
    iprop(Recs m κ ∗ (bigSep Finset.univ fun x => openTok ER (ownCell c x)) ∗ Pipeline.ownSems0 osem c)
      ⊢ (|={Set.univ}=> iprop((semVal (sendCell c 0) 0 ∗ semVal (recvCell c 0) 0) ∗ bigSepL slots (openedRes c)
          ∗ bigSepL slots fun r => reached ER (recvCell c r.succ) 0) : sProp 𝕄) := by
  iintro ⟨#HR, Ht, Hs⟩
  ihave Hi := (own_invs m c κ) $$ [Ht]
  · isplitr; · iexact HR
    iexact Ht
  have ho : iprop((bigSep Finset.univ fun x => iprop(cellInv ER (sched m) (κ (ownCell c x)) (ownCell c x) ∗ openTok ER (ownCell c x)))
        ∗ Pipeline.ownSems0 osem c)
      ⊢ (|={Set.univ}=> bigSep Finset.univ fun x => iprop(atPos ER (ownCell c x) 0 ∅ 0 ∗ reached ER (ownCell c x) 0) : sProp 𝕄) :=
    cells_open ER (sched (F := F) m) Finset.univ (fun x => ownCell c x) (fun x => κ (ownCell c x)) (fun _ _ => Set.mem_univ _)
  imod ho $$ [Hi Hs] with H
  · isplitl [Hi]; · iexact Hi
    iexact Hs
  ihave H := (Entails.of_eq (own_split fun x => iprop(atPos ER (ownCell c x) 0 ∅ 0 ∗ reached ER (ownCell c x) 0))) $$ H
  icases H with ⟨⟨⟨H0, -⟩, ⟨H1, -⟩⟩, H⟩
  imod (cell_close ER (sched (F := F) m) (Set.mem_univ (κ (sendCell c 0))) (fun h => h) (R := 0) (duties_send0 m c)) $$ [H0] with H0
  · isplitr; · iapply (recs_send m κ c 0); iexact HR
    iexact H0
  imod (cell_close ER (sched (F := F) m) (Set.mem_univ (κ (recvCell c 0))) (fun h => h) (R := 0) (duties_recv0 m c)) $$ [H1] with H1
  · isplitr; · iapply (recs_recv m κ c 0); iexact HR
    iexact H1
  imodintro
  isplitl [H0 H1]; · (isplitl [H0] <;> iassumption)
  iapply (slots_unzip (openedRes c) (fun r => reached ER (recvCell c r.succ) 0) _ fun r => by
    show iprop((atPos ER (sendCell c r.succ) 0 ∅ 0 ∗ reached ER (sendCell c r.succ) 0) ∗ (atPos ER (recvCell c r.succ) 0 ∅ 0 ∗ reached ER (recvCell c r.succ) 0))
      ⊢ (_ : sProp 𝕄)
    unfold openedRes
    iintro ⟨⟨A, B⟩, C, D⟩
    isplitl [A B C]
    · isplitl [A]; · iexact A
      isplitl [B] <;> iassumption
    iexact D)
  iexact H

/-! ## The memory at entry -/

theorem A_eq (w : Fin 5) : (rdat m c).A w = Gen.V1 m c (Pipeline.arrRef spec0 w) := by
  match w with
  | ⟨0, _⟩ => exact (Gen.V1_of m c main_arg0 (by decide)).symm
  | ⟨1, _⟩ => exact (Gen.V1_of m c main_arg1 (by decide)).symm
  | ⟨2, _⟩ => exact (Gen.V1_of m c main_arg2 (by decide)).symm
  | ⟨3, _⟩ => exact (Gen.V1_of m c main_arg3 (by decide)).symm
  | ⟨4, _⟩ => exact (Gen.V1_of m c main_v10 (by decide)).symm

/-- The proof data, pipeline by pipeline (there is one). -/
abbrev rdats (p : Fin 1) (c : Dev nD) : RDat τ (Elt F) Unit ℕ UU ℕ (Pipeline.pinD (pcfgs (F := F)) adm c p) c :=
  match p with | ⟨0, _⟩ => rdat m c

theorem share_eq (w : Fin 5) : (rdat m c).share w = fullShare := by
  unfold RDat.share; split <;> rfl

set_option backward.isDefEq.respectTransparency.types false in
theorem memory_in : (StableHlo.held (c : Thread nD τ) (Pipeline.ucRefs τ sig) (Gen.V1 m c) : sProp 𝕄)
    ⊢ iprop((rdat m c).arrays (rdat m c).A ∗ Pipeline.prefHeld pre0 c (fun _ => fullShare) (tabs (F := F) c)) := by
  rw [← Pipeline.unscopedBufs_held (Ix := Unit) (Name := ℕ) (U := UU) (Lvl := ℕ) c (Gen.V1 m c)]
  refine (Pipeline.PerCore.RDat.arrays_of_unscopedBufs (pcfgs (F := F)) adm (rdats m) (p := 0) launch0.win launch0.arr_whole c
    (share_eq m c) (fun b => Gen.V1 m c b) (A_eq m c)).trans (sep_mono .rfl ?_)
  rw [Pipeline.unscopedRest_split preFacts0 c (fun b => Gen.V1 m c b),
    show (fun k => Gen.V1 m c (pre0.ref k)) = tabs (F := F) c from funext fun k => match k with | ⟨0, _⟩ => table_eq m c]
  iintro ⟨H, -⟩; iexact H

/-! ## In -/

/-- What the region is entered from. -/
def preOf : sProp 𝕄 :=
  iprop(StableHlo.held (c : Thread nD τ) (Pipeline.ucRefs τ sig) (Gen.V1 m c) ∗ Rg m c ∗ owes (c : Thread nD τ) (O₀ c) ∅)

theorem entry : iprop(preOf m c ∗ Pipeline.ownSems0 osem c ∗ levAts L lv)
    ⊢ (|={Set.univ}=> iprop((rdat m c).arrays (rdat m c).A ∗ Pipeline.prefHeld pre0 c (fun _ => fullShare) (tabs (F := F) c)
        ∗ (rdat m c).owesAt () 0 ∗ enterRes m c ∗ emp) : sProp 𝕄) := by
  unfold preOf Rg
  iintro ⟨⟨Hm, ⟨⟨%κ, #HR⟩, Ht, Hp, Hc, Hb, Hg⟩, HO⟩, Hs, #HL⟩
  ihave Hm := (memory_in m c) $$ Hm
  icases Hm with ⟨Ha, Hpre⟩
  imod (open_own m c κ) $$ [Ht Hs] with H
  · isplitr; · iexact HR
    isplitl [Ht] <;> iassumption
  icases H with ⟨H0, Hopen, Hreached⟩
  imodintro
  isplitl [Ha]; · iexact Ha
  isplitl [Hpre]; · iexact Hpre
  isplitl [HO]
  · iapply (owesAt_intro m c 0)
    iexists ∅; iexact HO
  isplitl
  · unfold enterRes
    isplitr; · iexists κ; iexact HR
    isplitr; · iexact HL
    isplitl [H0]; · iexact H0
    isplitl [Hp]; · iexact Hp
    isplitl [Hc]; · iexact Hc
    isplitl [Hb]; · iexact Hb
    isplitl [Hg]; · iexact Hg
    isplitl [Hopen] <;> iassumption
  iempintro

/-- The table at its contents. -/
theorem table_in : (Pipeline.prefHeld pre0 c (fun _ => fullShare) (tabs (F := F) c) : sProp 𝕄) ⊢ holds c tabM (tabOf c) := by
  unfold Pipeline.prefHeld holds tabM
  rw [owns_whole]
  rw [bigSep_univ_eq_bigSepL [(0 : Fin 1)] (by decide) (by decide)]
  exact .rfl

/-- The slots' shares of what the exchange is entered with. -/
theorem slots_in : iprop(bigSepL slots (barGift c) ∗ bigSepL slots (slotGift c) ∗ bigSepL slots (openedRes c)
      ∗ (bigSepL slots fun r => reached ER (recvCell c r.succ) 0) ∗ (bigSepL slots fun r => commAny c r.succ) ∗ bigSepL slots fun r => rbufAny c r.succ)
    ⊢ (iprop(bigSepL slots (sigRes c) ∗ bigSepL slots (newRes c)) : sProp 𝕄) := by
  have h1 : iprop((bigSepL slots fun r => rbufAny (F := F) c r.succ) ∗ bigSepL slots fun r => reached ER (recvCell c r.succ) 0)
      ⊢ bigSepL slots fun r => barPay (F := F) c r.rev.succ := by
    rw [← slots_rev fun r => barPay (F := F) c r.succ]
    exact slots_zip _ _ _ fun r => by unfold barPay; exact .rfl
  have h2 : iprop(bigSepL slots (barGift (F := F) c) ∗ bigSepL slots fun r => barPay (F := F) c r.rev.succ) ⊢ bigSepL slots (sigRes (F := F) c) :=
    slots_zip _ _ _ fun r => by
      unfold barGift sigRes
      iintro ⟨⟨A, B⟩, C⟩
      isplitl [A]; · iexact A
      isplitl [B] <;> iassumption
  have h3 : iprop((bigSepL slots fun r => commAny (F := F) c r.succ) ∗ bigSepL slots fun r => iprop(slotGift (F := F) c r ∗ openedRes c r))
      ⊢ bigSepL slots (newRes (F := F) c) :=
    slots_zip _ _ _ fun r => by
      unfold slotGift openedRes newRes waitRes
      iintro ⟨A, ⟨B, C, D⟩, G, H, I⟩
      isplitl [A]; · iexact A
      isplitl [B]; · iexact B
      isplitl [H]; · iexact H
      isplitl [C]; · iexact C
      isplitl [D]; · iexact D
      isplitl [G] <;> iassumption
  rw [slots_sep] at h3
  iintro ⟨A, B, C, D, G, H⟩
  ihave HP := h1 $$ [H D]
  · isplitl [H] <;> iassumption
  isplitl [A HP]
  · iapply h2
    isplitl [A] <;> iassumption
  iapply h3
  isplitl [G]; · iexact G
  isplitl [B] <;> iassumption

theorem first_in : iprop(enterRes m c ∗ Pipeline.prefHeld pre0 c (fun _ => fullShare) (tabs (F := F) c) ∗ Pipeline.scopedRest spec0 c) ⊢ Φfirst m c := by
  rw [scopedRest0_eq]
  unfold enterRes Φfirst always zeroRes
  iintro ⟨⟨HR, HL, ⟨Hs0, Hr0⟩, Hp, Hc, HB, HG, HO, HK⟩, Ht, ⟨%fx, Hx⟩, ⟨%fc, Hcm⟩, ⟨%fr, Hrb⟩⟩
  ihave Hcm := (comm_split c fc) $$ Hcm
  ihave Hrb := (rbuf_split c fr) $$ Hrb
  icases Hcm with ⟨Hc0, Hcm⟩
  icases Hrb with ⟨Hb0, Hrb⟩
  ihave Ht := (table_in c) $$ Ht
  ihave HS := (slots_in c) $$ [HB HG HO HK Hcm Hrb]
  · isplitl [HB]; · iexact HB
    isplitl [HG]; · iexact HG
    isplitl [HO]; · iexact HO
    isplitl [HK]; · iexact HK
    isplitl [Hcm] <;> iassumption
  isplitl [HR Ht Hc0 Hb0 Hs0 Hr0]
  · isplitl [HR]; · iexact HR
    isplitl [Ht]; · iexact Ht
    isplitl [Hc0]; · iexact Hc0
    isplitl [Hb0]; · iexact Hb0
    isplitl [Hs0] <;> iassumption
  isplitl [HL]; · iexact HL
  isplitl [Hx]
  · iexists fx
    unfold holds xbufM
    rw [owns_whole]
    iexact Hx
  isplitl [Hp]; · iexact Hp
  isplitl [Hc]; · iexact Hc
  iexact HS

/-! ## Out -/

/-- What the exchange ends with. -/
def leaveRes : sProp 𝕄 := iprop((∃ κ, Recs m κ) ∗ atPos ER (barCell c) (0 + 1) ∅ 0)

theorem slots_out : bigSepL slots (doneRes c)
    ⊢ (iprop((bigSepL slots fun r => commAny c r.succ) ∗ (bigSepL slots fun r => rbufAny c r.succ)
      ∗ bigSepL slots fun r => iprop(semVal (sendCell c r.succ) 0 ∗ semVal (recvCell c r.succ) 0)) : sProp 𝕄) := by
  rw [← slots_sep fun r => rbufAny (F := F) c r.succ]
  exact slots_unzip _ _ _ fun r => .rfl

theorem last_out : Φlast m c ⊢ iprop(leaveRes m c ∗ Pipeline.ownSems0 osem c ∗ Pipeline.scopedRest spec0 c) := by
  rw [scopedRest0_eq]
  unfold Φlast always zeroRes leaveRes
  iintro ⟨⟨HR, -, Hc0, Hb0, Hs0, Hr0⟩, Hx, Hp, HS⟩
  ihave HS := (slots_out c) $$ HS
  icases HS with ⟨Hc, Hb, Hs⟩
  isplitl [HR Hp]; · (isplitl [HR] <;> iassumption)
  isplitl [Hs0 Hr0 Hs]
  · unfold Pipeline.ownSems0
    iapply (Entails.of_eq (own_split fun x => (semVal (ownCell c x) 0 : sProp 𝕄)).symm)
    isplitl [Hs0 Hr0]
    · isplitl [Hs0]; · iexact Hs0
      iexact Hr0
    iexact Hs
  isplitl [Hx]
  · iexists (xOf m c)
    iapply (Entails.of_eq (owns_whole (c : Thread nD τ) cc0_scratch0 fullShare (xOf m c)))
    iexact Hx
  isplitl [Hc0 Hc]
  · iapply (comm_join c)
    isplitl [Hc0] <;> iassumption
  iapply (rbuf_join c)
  isplitl [Hb0] <;> iassumption

/-- What the region leaves. -/
def postOf : sProp 𝕄 :=
  iprop(((rdat m c).arraysAt (cfgOf F c).N ∗ semVal (barCell c) 0) ∗ ∃ W, owes (c : Thread nD τ) (0 : CellTallies nD τ sig Unit) W)

theorem exit : iprop((rdat m c).arraysAt (cfgOf F c).N ∗ (rdat m c).owesAt () (Fin.last (cfgOf F c).N) ∗ leaveRes m c ∗ emp)
    ⊢ (|={Set.univ}=> postOf m c : sProp 𝕄) := by
  unfold leaveRes postOf
  iintro ⟨Ha, HO, ⟨⟨%κ, #HR⟩, Hp⟩, -⟩
  ihave HO := (owesAt_elim m c (Fin.last (cfgOf F c).N)) $$ HO
  imod (cell_close ER (sched (F := F) m) (Set.mem_univ (κ (barCell c))) (fun h => h) (R := 0 + 1) (duties_later m (barCell c))) $$ [Hp] with Hv
  · isplitr; · iapply (recs_bar m κ c); iexact HR
    iexact Hp
  imodintro
  isplitl [Ha Hv]; · (isplitl [Ha] <;> iassumption)
  iexact HO

/-! ## The wait evidence -/

theorem waits_ok (w : Fin 5) (s : Fin ((cfgOf F c).win w).nbuf) (t : Fin ((cfgOf F c).N + 1)) :
    (levAts L lv : sProp 𝕄) ⊢ MayWait (c : Thread nD τ) (.dma (((cfgOf F c).win w).sem s)) () (owedAt c t.val) := by
  have hq : (((cfgOf F c).win w).sem s).val < 6 := by
    have h : ∀ (w : Fin 5) (s : Fin (spec0 w).nbuf), ((spec0 w).sem s).val < 6 := by decide
    exact h w s
  match t.val with
  | 0 => exact mayWait_stage c _ hq slots slots
  | n + 1 =>
    have h := mayWait_stage (F := F) c _ hq (slots.drop n) []
    rw [show landDues c (slots.drop n) + barDues c [] = owedAt c (n + 1) from add_zero _] at h
    exact h

end

end Cert.KernelIdeal.Run

end
-- ==== Proof.KI.Fund.lean ====
/-
The launch: the cells' invariants made once for all devices, the duties' tokens dealt to the devices that perform them.
-/
module

public import proofs.«01_k».proof.Proof.KI.Region

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens, as sets -/

theorem bar_inj : Function.Injective barCell := fun c c' h => congrArg (fun g : GSem nD τ sig => g.1.1) h

theorem osem_inj : Function.Injective osem := by decide +kernel

theorem own_inj : Function.Injective fun p : Dev nD × (Bool × Fin 32) => ownCell p.1 p.2 := fun p p' h =>
  Prod.ext (congrArg (fun g : GSem nD τ sig => g.1.1) h) (osem_inj (congrArg (fun g : GSem nD τ sig => g.2) h))

/-- Every barrier cell, and every other cell of the kernel's own. -/
def bars : Finset (GSem nD τ sig) := Finset.univ.map ⟨barCell, bar_inj⟩
def owns' : Finset (GSem nD τ sig) := Finset.univ.map ⟨fun p : Dev nD × (Bool × Fin 32) => ownCell p.1 p.2, own_inj⟩

theorem bars_owns : Disjoint bars owns' := by
  rw [Finset.disjoint_left]
  intro g h h'
  obtain ⟨c, -, rfl⟩ := Finset.mem_map.mp h
  obtain ⟨p, -, h⟩ := Finset.mem_map.mp h'
  have h2 : osem p.2 = .reg barS := congrArg (fun g : GSem nD τ sig => g.2) h
  unfold osem at h2
  cases h2

/-- The duties: the barrier's (`none`), a slot's send (`some false`) and its receive (`some true`). -/
def duty (p : (Dev nD × Fin 31) × Option Bool) : GSem nD τ sig × ℕ × Fin 31 :=
  match p.2 with
  | none => (barCell p.1.1, 0, p.1.2)
  | some b => (ownCell p.1.1 (b, p.1.2.succ), 0, 0)

theorem duty_inj : Function.Injective duty := by
  rintro ⟨⟨c, r⟩, o⟩ ⟨⟨c', r'⟩, o'⟩ h
  have hc : c = c' := by
    have := congrArg (fun x : GSem nD τ sig × ℕ × Fin 31 => x.1.1.1) h
    cases o <;> cases o' <;> exact this
  subst hc
  have hs := congrArg (fun x : GSem nD τ sig × ℕ × Fin 31 => x.1.2) h
  have hd := congrArg (fun x : GSem nD τ sig × ℕ × Fin 31 => x.2.2) h
  cases o with
  | none =>
    cases o' with
    | none => rw [show r = r' from hd]
    | some b' =>
      have h2 : (SemLoc.reg barS : SemLoc sig) = osem (b', r'.succ) := hs
      unfold osem at h2; cases h2
  | some b =>
    cases o' with
    | none =>
      have h2 : osem (b, r.succ) = (SemLoc.reg barS : SemLoc sig) := hs
      unfold osem at h2; cases h2
    | some b' =>
      have h2 := osem_inj (show osem (b, r.succ) = osem (b', r'.succ) from hs)
      rw [Prod.mk.injEq] at h2
      rw [h2.1, Fin.succ_injective _ h2.2]

def duties : Finset (GSem nD τ sig × ℕ × Fin 31) := Finset.univ.map ⟨duty, duty_inj⟩

/-- The exchange's element at the launch. -/
def launchEl : UK := launchOf bars owns' duties

/-! ## The tokens, dealt -/

set_option backward.proofsInPublic true in
/-- The device and slot a barrier duty is performed from. -/
def fromB : Dev nD × Fin 31 ≃ Dev nD × Fin 31 :=
  ⟨fun p => (peer p.1 p.2, p.2.rev), fun p => (peer p.1 p.2, p.2.rev),
    fun p => Prod.ext (peer_rev p.1 p.2) (Fin.rev_rev p.2), fun p => Prod.ext (peer_rev p.1 p.2) (Fin.rev_rev p.2)⟩

set_option backward.proofsInPublic true in
/-- The device a slot's receive is performed from. -/
def fromR : Dev nD × Fin 31 ≃ Dev nD × Fin 31 :=
  ⟨fun p => (peer p.1 p.2, p.2), fun p => (peer p.1 p.2.rev, p.2),
    fun p => Prod.ext (peer_rev p.1 p.2) rfl, fun p => Prod.ext (rev_peer p.1 p.2) rfl⟩

/-- A device's tokens for a slot. -/
def toks (p : Dev nD × Fin 31) : sProp 𝕄 :=
  iprop(dutyTok ER (barCell (peer p.1 p.2)) 0 p.2.rev ∗ dutyTok ER (sendCell p.1 p.2.succ) 0 0 ∗ dutyTok ER (recvCell (peer p.1 p.2) p.2.succ) 0 0)

theorem options (Φ : Option Bool → sProp 𝕄) : bigSep Finset.univ Φ = iprop(Φ none ∗ Φ (some false) ∗ Φ (some true)) := by
  rw [bigSep_univ_eq_bigSepL [none, some false, some true] (by decide) (by decide)]; rfl

theorem deal_toks : (bigSep duties fun x => dutyTok ER x.1 x.2.1 x.2.2) ⊢ (bigSep Finset.univ toks : sProp 𝕄) := by
  unfold duties
  rw [bigSep_map, bigSep_univ_prod, bigSep_congr (s := Finset.univ) fun p _ => options _, bigSep_sep', bigSep_sep']
  have hB := bigSep_univ_equiv fromB fun p : Dev nD × Fin 31 => (dutyTok ER (barCell p.1) 0 p.2 : sProp 𝕄)
  have hR := bigSep_univ_equiv fromR fun p : Dev nD × Fin 31 => (dutyTok ER (recvCell p.1 p.2.succ) 0 0 : sProp 𝕄)
  have hT : (bigSep Finset.univ toks : sProp 𝕄) = iprop((bigSep Finset.univ fun p : Dev nD × Fin 31 => dutyTok ER (barCell p.1) 0 p.2)
      ∗ (bigSep Finset.univ fun p : Dev nD × Fin 31 => dutyTok ER (sendCell p.1 p.2.succ) 0 0)
      ∗ (bigSep Finset.univ fun p : Dev nD × Fin 31 => dutyTok ER (recvCell p.1 p.2.succ) 0 0)) := by
    rw [hB, hR, ← bigSep_sep', ← bigSep_sep']; rfl
  rw [hT]
  exact .rfl

/-! ## What the launch makes -/

variable (m : (ℓ : Loc nD τ sig) → Buf (Elt F) ℓ)

/-- The launch's holdings of a device: its barrier semaphore, its credit and the rest. -/
theorem unscoped_eq (c : Dev nD) : (unscopedSems0 c : sProp 𝕄) = semVal (barCell c) 0 := by
  unfold unscopedSems0
  rw [bigSep_eq_bigSepL_of_eq [SemLoc.reg barS] (by decide) (by decide)]
  rfl

theorem recs_of (κ : GSem nD τ sig → ℕ) : (bigSep (bars ∪ owns') fun g => cellInv ER (sched m) (κ g) g) ⊢ Recs m κ := by
  rw [bigSep_union bars_owns]
  unfold bars owns' Recs
  rw [bigSep_map, bigSep_map]
  exact .rfl

/-- A device's credit and tokens, slot by slot. -/
def share (c : Dev nD) : sProp 𝕄 :=
  iprop(Pipeline.launchCred O₀ c ∗ (bigSep Finset.univ fun x => openTok ER (ownCell c x)) ∗ atPos ER (barCell c) 0 ∅ 0
    ∗ bigSep Finset.univ fun r => toks (c, r))

theorem share_Rg (κ : GSem nD τ sig → ℕ) (c : Dev nD) :
    iprop((Recs m κ ∗ bigSep Finset.univ fun d => reached ER (barCell d) 0) ∗ share c) ⊢ Rg m c := by
  unfold share Rg
  iintro ⟨⟨#HR, #Hb⟩, Hc, Ho, Hp, Ht⟩
  ihave Hc := (launch_credit c) $$ Hc
  icases Hc with ⟨Hr, Hc⟩
  have ht : (bigSep Finset.univ fun r => toks (F := F) (c, r)) ⊢ iprop((bigSepL slots fun r => dutyTok ER (barCell (peer c r)) 0 r.rev)
      ∗ bigSepL slots fun r => iprop(dutyTok ER (sendCell c r.succ) 0 0 ∗ dutyTok ER (recvCell (peer c r) r.succ) 0 0)) := by
    rw [slots_all]
    exact slots_unzip _ _ _ fun r => by unfold toks; exact .rfl
  ihave Ht := ht $$ Ht
  icases Ht with ⟨HB, HT⟩
  isplitr; · iexists κ; iexact HR
  isplitl [Ho]; · iexact Ho
  isplitl [Hp]; · iexact Hp
  isplitl [Hc]; · iexact Hc
  isplitl [HB]
  · have hb : iprop((bigSep Finset.univ fun d => reached ER (barCell d) 0) ∗ bigSepL slots fun r => dutyTok ER (barCell (peer c r)) 0 r.rev)
        ⊢ bigSepL slots (barGift (F := F) c) := by
      rw [← slots_all, ← slots_all]
      refine (share_out Finset.univ _ _).trans (bigSep_mono fun r _ => ?_)
      show _ ⊢ (_ : sProp 𝕄)
      unfold barGift
      iintro ⟨HA, HB⟩
      isplitl [HB]; · iexact HB
      have he : (bigSep Finset.univ fun d : Dev nD => reached ER (barCell d) 0) ⊢ (reached ER (barCell (peer c r)) 0 : sProp 𝕄) :=
        bigSep_elim (Finset.mem_univ (peer c r))
      iapply he
      iexact HA
    iapply hb
    isplitr; · iexact Hb
    iexact HB
  · iapply (slots_zip (fun r => iprop(dutyTok ER (sendCell c r.succ) 0 0 ∗ dutyTok ER (recvCell (peer c r) r.succ) 0 0))
      (fun r => cred (tallyAt (recvCell c r.succ) () N)) (slotGift (F := F) c) fun r => by
      unfold slotGift
      iintro ⟨⟨A, B⟩, C⟩
      isplitl [A]; · iexact A
      isplitl [B] <;> iassumption)
    isplitl [HT] <;> iassumption

end Cert.KernelIdeal.Run

end
-- ==== Proof.KI.Run.lean ====
/-
The run: the region of the exchange and the products as one record, what the launch deals each device, the kernel's
whole execution, and what it leaves: each device's result slab by slab, every argument as it was, every counter at zero.
-/
module

public import proofs.«01_k».proof.Proof.KI.Fund
public import Idealize.ShloMosaic.Lib.Pipeline.ArrRel

@[expose] public section

noncomputable section

namespace Cert.KernelIdeal.Run

open Cert.KernelIdeal Cert.KernelIdeal.Gen

open Idealize.ShloMosaic
open Idealize.ShloMosaic.TcCoe
open Idealize.ShloMosaic.Pipeline (RDat)
open Idealize.ShloMosaic.Pipeline.PerCore.RDat (RegionSeg Seg)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The region -/

set_option backward.proofsInPublic true in
set_option backward.isDefEq.respectTransparency.types false in
/-- The region, entered with the arguments, the table and the exchange's shares, left with the result. -/
def reg0 : RegionSeg (pcfgs (F := F)) adm (rdats m) () defs₀ 𝒱₀ L lv 0 where
  win := launch0.win.to₀
  block_pos := launch0.block_pos
  stage_whole := launch0.stage_whole
  K := Bool × Fin 32
  osem := osem
  ho := ho
  hbody c := body_obligation m c
  hwaits c := Pipeline.PerCore.RDat.cellsWaits_intro (Pipeline.pinD (pcfgs (F := F)) adm) (rdats m) () 0 c fun w s t => waits_ok c w s t
  pre c := preOf m c
  post c := postOf m c
  X c := enterRes m c
  Y c := leaveRes m c
  Z _ := BI.emp
  hentry c := entry m c
  hin c := first_in m c
  hout c := by
    rw [show (rdats m 0 c).Φ (Fin.last (cfgOf F c).N) = Φlast m c from by
      show Φn m c 32 = _
      show (if 31 < 31 then Φmid m c 31 else Φlast m c) = _
      rw [if_neg (by decide)]]
    exact last_out m c
  hexit c := exit m c

/-- What rides beside the buffers through the host operations. -/
def ride (_ : Fin 2) (c : Dev nD) : sProp 𝕄 := iprop(Rg m c ∗ owes (c : Thread nD τ) (O₀ c) ∅)

/-- The program, as its host operations and the region. -/
abbrev segs (c : Dev nD) : List (Seg (pcfgs (F := F)) adm (rdats m) () defs₀ 𝒱₀ L lv) :=
  [.host (Gen.seg0 m 𝒱₀ L lv (ride m) c), .region (reg0 m)]

/-! ## The launch -/

set_option backward.proofsInPublic true in
theorem staging_inj : Function.Injective (Pipeline.PerCore.cellOf (nD := nD) (τ := τ) (Pipeline.pinD (pcfgs (F := F)) adm)) :=
  Pipeline.PerCore.cellOf_injective _ (fun _ p => Pipeline.specSemsDistinct_of_nodup _ (by
      obtain rfl : p = 0 := Subsingleton.elim _ _
      exact semsDistinct 0))
    fun _ p p' h => absurd (Subsingleton.elim p p') h

/-- What each device starts from, and what it ends with. -/
def T₀ (c : Dev nD) : sProp 𝕄 := iprop(StableHlo.held (c : Thread nD τ) (Pipeline.ucRefs τ sig) (Gen.V0 m c) ∗ ride m 0 c)
def Tₙ (c : Dev nD) : sProp 𝕄 := iprop((rdat m c).arraysAt (cfgOf F c).N ∗ semVal (barCell c) 0)

/-- The launch's element: the staging cells' and the exchange's. -/
def u₀ : UU :=
  (initOf (Pipeline.PerCore.cells (Pipeline.pinD (pcfgs (F := F)) adm) staging_inj)
      (Pipeline.PerCore.launchToks (Pipeline.pinD (pcfgs (F := F)) adm) staging_inj), launchEl)

/-- The exchange's element goes to the launch whole, on device 0. -/
def G (c : Dev nD) : sProp 𝕄 := if c = 0 then BI.own (ER launchEl) else iprop(emp)

theorem bigSep_G_eq : (bigSep Finset.univ G : sProp 𝕄) = BI.own (ER launchEl) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The barriers' counters and the exchange's element make the cells, and give each device what it enters with. -/
theorem fund : iprop((bigSep Finset.univ fun c : Dev nD => semVal (barCell c) 0) ∗ BI.own (ER launchEl)
      ∗ bigSep Finset.univ fun c : Dev nD => Pipeline.launchCred O₀ c)
    ⊢ (|={Set.univ}=> bigSep Finset.univ (Rg m) : sProp 𝕄) := by
  iintro ⟨Hv, Hu, Hc⟩
  have hv : (bigSep Finset.univ fun c : Dev nD => semVal (barCell c) 0) ⊢ (bigSep bars fun g => semVal g 0 : sProp 𝕄) := by
    unfold bars; rw [bigSep_map]; exact .rfl
  ihave Hv := hv $$ Hv
  imod (fund_launch ER (sched (F := F) m) bars_owns (fun g _ h => h) duties (Es := Set.univ)) $$ [Hv Hu] with ⟨%κ, -, Hinv, Hr, Hat, Hun, Htok⟩
  · isplitl [Hv]; · iexact Hv
    iexact Hu
  imodintro
  ihave HR := (recs_of m κ) $$ Hinv
  icases HR with #HR
  have hr : (bigSep bars fun g => reached ER g 0) ⊢ (bigSep Finset.univ fun d : Dev nD => reached ER (barCell d) 0 : sProp 𝕄) := by
    unfold bars; rw [bigSep_map]; exact .rfl
  have hat : (bigSep bars fun g => atPos ER g 0 ∅ 0) ⊢ (bigSep Finset.univ fun d : Dev nD => atPos ER (barCell d) 0 ∅ 0 : sProp 𝕄) := by
    unfold bars; rw [bigSep_map]; exact .rfl
  have hun : (bigSep owns' fun g => openTok ER g)
      ⊢ (bigSep Finset.univ fun c : Dev nD => bigSep Finset.univ fun x => openTok ER (ownCell c x) : sProp 𝕄) := by
    unfold owns'; rw [bigSep_map, bigSep_univ_prod]; exact .rfl
  have htok : (bigSep duties fun x => dutyTok ER x.1 x.2.1 x.2.2)
      ⊢ (bigSep Finset.univ fun c : Dev nD => bigSep Finset.univ fun r => toks (c, r) : sProp 𝕄) :=
    deal_toks.trans (by rw [bigSep_univ_prod])
  ihave Hr := hr $$ Hr
  icases Hr with #Hr
  ihave Hat := hat $$ Hat
  ihave Hun := hun $$ Hun
  ihave Htok := htok $$ Htok
  have hs : iprop((bigSep Finset.univ fun c : Dev nD => Pipeline.launchCred O₀ c)
        ∗ (bigSep Finset.univ fun c : Dev nD => bigSep Finset.univ fun x => openTok ER (ownCell c x))
        ∗ (bigSep Finset.univ fun d : Dev nD => atPos ER (barCell d) 0 ∅ 0)
        ∗ bigSep Finset.univ fun c : Dev nD => bigSep Finset.univ fun r => toks (c, r))
      ⊢ (bigSep Finset.univ share : sProp 𝕄) := by
    rw [← bigSep_sep', ← bigSep_sep', ← bigSep_sep']; exact .rfl
  iapply ((share_out (F := F) Finset.univ iprop(Recs m κ ∗ bigSep Finset.univ fun d => reached ER (barCell d) 0) share).trans
    (bigSep_mono fun c _ => share_Rg m κ c))
  isplitr
  · isplitr; · iexact HR
    iexact Hr
  iapply hs
  isplitl [Hc]; · iexact Hc
  isplitl [Hun]; · iexact Hun
  isplitl [Hat] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(semVal (barCell c) 0 ∗ G c ∗ Pipeline.launchCred O₀ c
          ∗ (StableHlo.held (c : Thread nD τ) (Pipeline.ucRefs τ sig) (Gen.V0 m c) ∗ owes (c : Thread nD τ) (O₀ c) ∅)) : sProp 𝕄) := by
    rw [unscoped_eq, ← Pipeline.unscopedBufs_held (Ix := Unit) (Name := ℕ) (U := UU) (Lvl := ℕ) c (Gen.V0 m c)]
    iintro ⟨Hub, Hus, HO, Hcr, -, HG⟩
    isplitl [Hus]; · iexact Hus
    isplitl [HG]; · iexact HG
    isplitl [Hcr]; · iexact Hcr
    isplitl [Hub]; · iexact Hub
    iexact HO
  have h2 (c : Dev nD) : iprop(Rg m c ∗ (StableHlo.held (c : Thread nD τ) (Pipeline.ucRefs τ sig) (Gen.V0 m c) ∗ owes (c : Thread nD τ) (O₀ c) ∅))
      ⊢ (T₀ m c : sProp 𝕄) := by
    unfold T₀ ride
    iintro ⟨Hrg, Hub, HO⟩
    isplitl [Hub]; · iexact Hub
    isplitl [Hrg] <;> iassumption
  iintro ⟨H, -⟩
  ihave H' := (show _ ⊢ iprop((bigSep Finset.univ fun c : Dev nD => semVal (barCell c) 0) ∗ bigSep Finset.univ G
        ∗ (bigSep Finset.univ fun c : Dev nD => Pipeline.launchCred O₀ c)
        ∗ bigSep Finset.univ fun c : Dev nD => iprop(StableHlo.held (c : Thread nD τ) (Pipeline.ucRefs τ sig) (Gen.V0 m c) ∗ owes (c : Thread nD τ) (O₀ c) ∅))
      from by rw [← bigSep_sep', ← bigSep_sep', ← bigSep_sep']; exact bigSep_mono fun c _ => h1 c) $$ H
  icases H' with ⟨Hv, HG, Hc, Hrest⟩
  ihave Hu := (Entails.of_eq bigSep_G_eq) $$ HG
  imod (fund m) $$ [Hv Hu Hc] with Hr
  · isplitl [Hv]; · iexact Hv
    isplitl [Hu] <;> iassumption
  imodintro
  iapply (show iprop((bigSep Finset.univ fun c : Dev nD => Rg m c)
        ∗ bigSep Finset.univ fun c : Dev nD => iprop(StableHlo.held (c : Thread nD τ) (Pipeline.ucRefs τ sig) (Gen.V0 m c) ∗ owes (c : Thread nD τ) (O₀ c) ∅))
      ⊢ (bigSep Finset.univ (T₀ m) : sProp 𝕄) from by rw [← bigSep_sep']; exact bigSep_mono fun c _ => h2 c)
  isplitl [Hr] <;> iassumption

/-! ## What the run leaves -/

/-- The result's window is written back whole, once. -/
theorem whole_last (c : Dev nD) : ((cfgOf F c).win (4 : Fin 5)).WholeAt ⟨31, (by decide : 31 < grid0.N)⟩ :=
  ⟨flush_last c _ rfl, fun t ht => by
    have hlt : t.val < 32 := t.isLt
    by_cases h : t.val < 31
    · rw [flush_early c t h] at ht; cases ht
    · exact Fin.ext (by show t.val = 31; omega), fun a => by fin_cases a <;> exact ⟨rfl, rfl⟩⟩

/-- The result, slab by slab. -/
theorem result_of (c : Dev nD) (X : Buf (Elt F) ((c : Thread nD τ).loc main_v10))
    (h : (rdat m c).ArrAt (4 : Fin 5) (cfgOf F c).N X) (b : Dev nD) (j : S128x256.Idx) :
    (X : S4096x256.Idx → Elt F .f32) ((slabR b).emb j) = outSlab m c b j := by
  haveI : ∀ e, Nonempty (Elt F e) := fun e => ⟨(Elt.inhabited F e).default⟩
  obtain ⟨Y, hY, hX⟩ := RDat.ArrAt.emb_eq_of_wholeAt h (whole_last c)
  exact (hX ((slabR b).emb j)).trans (leaves_out m c _ Y rfl hY b (fun _ hr => absurd hr (by simp)) j)

/-- The statement about a final memory. -/
def Left (c : Dev nD) (s : MemSt nD τ sig (Elt F)) : Prop :=
  (∀ b j, (s.mem ((c : Thread nD τ).loc main_v10) : S4096x256.Idx → Elt F .f32) ((slabR b).emb j) = outSlab m c b j)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem left_of (c : Dev nD) (s : MemSt nD τ sig (Elt F))
    (h : ∀ w, (rdat m c).ArrAt w (cfgOf F c).N (s.mem (((cfgOf F c).spec w).arr.view.loc (c.tc : Thread nD τ)))) : Left m c s := by
  have hin : ∀ w : Fin 5, ((cfgOf F c).win w).isOut = false
      → s.mem (((cfgOf F c).spec w).arr.view.loc (c.tc : Thread nD τ)) = (rdat m c).A w := fun w hw => by
    have := h w; rwa [RDat.ArrAt_in (rdat m c) w hw] at this
  exact ⟨fun b j => result_of m c _ (h (4 : Fin 5)) b j, hin 0 rfl, hin 1 rfl, hin 2 rfl, hin 3 rfl⟩

set_option backward.isDefEq.respectTransparency.types false in
/-- Every execution ends; it leaves each device's result as computed, the arguments as they were and the counters at zero. -/
theorem run_main : θ_run defs (onTc (τ := τ) (main (F := F))) ⟨m, fun _ => 0, ρ⟩
    (fun r => (∀ c : Dev nD, Left m c r.2) ∧ r.2.sem = fun _ => 0) :=
  haveI : ∀ e, Nonempty (Elt F e) := fun e => ⟨(Elt.inhabited F e).default⟩
  Pipeline.PerCore.RDat.θ_run_regions_kit_sems (pcfgs (F := F)) adm (rdats m) () staging_inj EP defs₀ 𝒱₀ L lv m ρ main (segs m)
    (fun c Q => by
      rewrite [main_chain c, Seg.run_eq_chain,
        show (segs m c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := T₀ m) (Tₙ := Tₙ m)
    (hch := fun c => ⟨.rfl, .rfl, .rfl⟩)
    (hinit := init m ρ)
    (QY := fun c s => Left m c s ∧ s.sem (barCell c) = 0)
    (hfin := fun c s' => by
      unfold Tₙ
      iintro ⟨⟨Ha, Hv⟩, HSI⟩
      icombine HSI Hv gives %hz
      ihave Hr := (Pipeline.PerCore.RDat.arrays_read (pcfgs (F := F)) adm (rdats m) (p := 0) launch0.arr_whole c (cfgOf F c).N s') $$ [Ha HSI]
      · isplitl [Ha] <;> iassumption
      icases Hr with ⟨%ha, HSI⟩
      imodintro
      isplitr; · ipureintro; exact ⟨left_of m c s'.mem ha, hz⟩
      iexact HSI)
    (hQ := fun s h hs => ⟨fun c => (h c).1, sem_eq_zero hs fun c sm hsm => by
      have hl : ∀ sm : SemLoc sig, sm.isScoped .tc = false → sm = .reg barS := by decide
      rw [hl sm hsm]
      exact (h c).2⟩)

end Cert.KernelIdeal.Run

end
-- ==== Proof.Value.Ref.lean ====
/-
The reference's result: the product of the whole arrays times the product of the scales.
-/
module

public import proofs.«01_k».proof.Proof.Gen.ReferenceIdeal.Value
public import Idealize.ShloMosaic.Lib.Pipeline.ValueKit.Geometry

@[expose] public section

noncomputable section

namespace Cert.ReferenceIdeal.Run

open Cert.ReferenceIdeal Cert.ReferenceIdeal.Gen
open Idealize.ShloMosaic
open Idealize.ShloMosaic.TcCoe
open Idealize.ShloMosaic.Tactic
open Idealize.SL.Sem

variable {F : FTy → Type} [FloatOps F]

variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The one element of a scale. -/
abbrev the (x : Vec F S1 .f32) : Elt F .f32 := x (Shape.Idx.first (s := S1) (numel1_S1.symm ▸ Nat.one_pos))

theorem the_eq (x : Vec F S1 .f32) (i : S1.Idx) : x i = the x := congrArg x (funext fun a => Fin.ext (by
  have h1 := (i a).isLt
  have h2 := (Shape.Idx.first (s := S1) (numel1_S1.symm ▸ Nat.one_pos) a).isLt
  have h3 : S1.size a = 1 := by fin_cases a; rfl
  omega))

/-- The body stores the scaled product of the blocks it is given. -/
theorem out_A (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole)
    (a4 : Memref sig .tc .vmem S4096x8192 .f32) (h4 : a4.IsWhole)
    (x0 : Vec F S4096x4096 .fp8e4m3) (x1 : Vec F S4096x8192 .fp8e4m3) (x2 : Vec F S1 .f32) (x3 : Vec F S1 .f32) :
    out0_A_4 c a0 h0 a1 h1 a2 h2 a3 h3 a4 h4 x0 x1 x2 x3 = k0_pay1 x0 x1 (the x2) (the x3) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S4096x4096) hz,
    View.ld_unit_zero (S := S4096x8192) hz, View.ld_unit_zero (S := S1) hz1]
  exact congrArg₂ (k0_pay1 x0 x1) (the_eq x2 _) (the_eq x3 _)

/-- The scaled product of the whole arrays. -/
def prodOf : Vec F S4096x8192 .f32 :=
  k0_pay1 (m (((0 : Dev nD) : Thread nD τ).loc main_arg0)) (m (((0 : Dev nD) : Thread nD τ).loc main_arg1))
    (the (m (((0 : Dev nD) : Thread nD τ).loc main_arg2))) (the (m (((0 : Dev nD) : Thread nD τ).loc main_arg3)))

/-- The one point. -/
abbrev pt0 : Fin cfg0.N := ⟨0, (by decide : 0 < grid0.N)⟩

/-- An input's block is its whole array. -/
theorem iblk0 : (iblk m 0 0 pt0 : Vec F S4096x4096 .fp8e4m3) = m (((0 : Dev nD) : Thread nD τ).loc main_arg0) :=
  funext fun j => congrArg (m (((0 : Dev nD) : Thread nD τ).loc main_arg0))
    (funext fun a => Fin.ext (Pipeline.Window.rect_emb_val_of_index_zero (cfg0.win 0) pt0 a rfl j))
theorem iblk1 : (iblk m 0 1 pt0 : Vec F S4096x8192 .fp8e4m3) = m (((0 : Dev nD) : Thread nD τ).loc main_arg1) :=
  funext fun j => congrArg (m (((0 : Dev nD) : Thread nD τ).loc main_arg1))
    (funext fun a => Fin.ext (Pipeline.Window.rect_emb_val_of_index_zero (cfg0.win 1) pt0 a rfl j))
theorem iblk2 : (iblk m 0 2 pt0 : Vec F S1 .f32) = m (((0 : Dev nD) : Thread nD τ).loc main_arg2) :=
  funext fun j => congrArg (m (((0 : Dev nD) : Thread nD τ).loc main_arg2))
    (funext fun a => Fin.ext (Pipeline.Window.rect_emb_val_of_index_zero (cfg0.win 2) pt0 a rfl j))
theorem iblk3 : (iblk m 0 3 pt0 : Vec F S1 .f32) = m (((0 : Dev nD) : Thread nD τ).loc main_arg3) :=
  funext fun j => congrArg (m (((0 : Dev nD) : Thread nD τ).loc main_arg3))
    (funext fun a => Fin.ext (Pipeline.Window.rect_emb_val_of_index_zero (cfg0.win 3) pt0 a rfl j))

theorem after_eq : ((dats m 0 0).after 4 pt0 : Vec F S4096x8192 .f32) = prodOf m := by
  rw [after0_4]
  unfold outsAt0
  rw [out_A]
  unfold prodOf
  rw [← iblk0 m, ← iblk1 m, ← iblk2 m, ← iblk3 m]

/-- The result's array after the run. -/
theorem result : (dats m 0 0).arrAt 4 cfg0.N = prodOf m :=
  (dats m 0 0).arrAt_eq_of_after_last 4 pt0 (by decide +kernel) (prodOf m) (fun j => congrFun (after_eq m) j)
    (launch0.arr_whole 4)

end Cert.ReferenceIdeal.Run

end
-- ==== Proof.Value.Eq.lean ====
/-
The two programs' results agree: read at an index, a device's slab of the kernel's result is a row of one device's
block of `x` against a column of `w`, scaled, which is the reference's product at the place the slab has in the whole.
-/
module

public import proofs.«01_k».proof.Proof.KI.Run
public import proofs.«01_k».proof.Proof.Value.Ref
public import Idealize.ShloMosaic.Lib.MatmulPlain
public import Idealize.ShloMosaic.Lib.ValueIdx
public import Idealize.ShloMosaic.Lib.Layout

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL.Sem

/-! ## The payloads at an index -/

theorem dims_eq : dot_S128x4096_S4096x256_S128x256_1_0_0_1_n_n = DotDims.plain 128 4096 256 := rfl
theorem dims_eq' : Cert.ReferenceIdeal.dot_S4096x4096_S4096x8192_S4096x8192_1_0_0_1_n_n = DotDims.plain 4096 4096 8192 := rfl

/-- A device's piece at an index. -/
theorem piece_apply (sx sw : Elt Ideal .f32) (x : FVec Ideal S128x4096 .fp8e4m3) (w : FVec Ideal S4096x256 .fp8e4m3) (r : Fin 128) (l : Fin 256) :
    (k0_pay1 (F := Ideal) sx sw x w (ix2 r l) : EReal)
      = (Ideal.ofBits .f32 0x00000000#32 + ∑ k : Fin 4096, x (ix2 r k) * w (ix2 k l)) * Scalar.mulf (F := Ideal) (φ := .f32) sx sw := by
  unfold k0_pay1
  rw [shapeCast_self, dims_eq]
  refine (mulf_apply _ _ _).trans ?_
  exact congrArg₂ (fun a b : EReal => a * b) (Ideal.matmul_plain_apply none x w _ r l) rfl

/-- The whole product at an index. -/
theorem whole_apply (sx sw : Elt Ideal .f32) (x : FVec Ideal Cert.ReferenceIdeal.S4096x4096 .fp8e4m3)
    (w : FVec Ideal Cert.ReferenceIdeal.S4096x8192 .fp8e4m3) (r : Fin 4096) (l : Fin 8192) :
    (Cert.ReferenceIdeal.Gen.k0_pay1 (F := Ideal) x w sx sw (ix2 r l) : EReal)
      = (Ideal.ofBits .f32 0x00000000#32 + ∑ k : Fin 4096, x (ix2 r k) * w (ix2 k l)) * Scalar.mulf (F := Ideal) (φ := .f32) sx sw := by
  unfold Cert.ReferenceIdeal.Gen.k0_pay1
  rw [dims_eq']
  refine (mulf_apply _ _ _).trans ?_
  exact congrArg₂ (fun a b : EReal => a * b) (Ideal.matmul_plain_apply none x w _ r l) rfl

/-! ## The slabs -/

variable (m : (ℓ : Loc nD τ sig) → Buf (Elt Ideal) ℓ)

/-- The slab that comes from device `b`: the widths of the formats do not matter here. -/
theorem slab_apply (c b : Dev nD) (j : S128x256.Idx) :
    ∃ k : Fin 32, (b.val + k.val) % 32 = c.val ∧ outSlab m c b j = k0_pay1 (F := Ideal) (sxOf m b) (swOf m b) (xOf m b) (wOf m b k) j := by
  have hb : b.val < 32 := b.isLt
  have hc : c.val < 32 := c.isLt
  by_cases h : b = c
  · subst h
    exact ⟨0, by show (b.val + 0) % 32 = b.val; omega, by rw [outSlab_own]; rfl⟩
  · refine ⟨⟨(c.val + (32 - b.val)) % 32, Nat.mod_lt _ (by decide)⟩, by dsimp only; omega, ?_⟩
    unfold outSlab
    rw [dif_neg h]
    unfold wire k0_pay2
    dsimp only
    rw [shapeCast_self]
    rfl

variable (m' : (ℓ : Loc Cert.ReferenceIdeal.nD Cert.ReferenceIdeal.τ Cert.ReferenceIdeal.sig) → Buf (Elt Ideal) ℓ)

/-- The arguments of the two programs, paired. -/
abbrev Paired : Prop := ∀ c : Dev nD,
  m ((c : Thread nD τ).loc main_arg0) = Layout.block ⟨2, ![128, 4096]⟩ ⟨2, ![4096, 4096]⟩ 0 32 c (m' (((0 : Dev Cert.ReferenceIdeal.nD) : Thread Cert.ReferenceIdeal.nD Cert.ReferenceIdeal.τ).loc Cert.ReferenceIdeal.main_arg0))
    ∧ m ((c : Thread nD τ).loc main_arg1) = m' (((0 : Dev Cert.ReferenceIdeal.nD) : Thread Cert.ReferenceIdeal.nD Cert.ReferenceIdeal.τ).loc Cert.ReferenceIdeal.main_arg1)
    ∧ m ((c : Thread nD τ).loc main_arg2) = m' (((0 : Dev Cert.ReferenceIdeal.nD) : Thread Cert.ReferenceIdeal.nD Cert.ReferenceIdeal.τ).loc Cert.ReferenceIdeal.main_arg2)
    ∧ m ((c : Thread nD τ).loc main_arg3) = m' (((0 : Dev Cert.ReferenceIdeal.nD) : Thread Cert.ReferenceIdeal.nD Cert.ReferenceIdeal.τ).loc Cert.ReferenceIdeal.main_arg3)

variable {m m'}

/-- Slab `b` of device `c`'s result is rows `128 b …` and columns `256 c …` of the whole product. -/
theorem slab_value (h : Paired m m') (c b : Dev nD) (r : Fin 128) (l : Fin 256) (R : Fin 4096) (C : Fin 8192)
    (hR : R.val = b.val * 128 + r.val) (hC : C.val = c.val * 256 + l.val) :
    outSlab m c b (ix2 r l) = Cert.ReferenceIdeal.Run.prodOf (F := Ideal) m' (ix2 R C) := by
  obtain ⟨k, hk, e⟩ := slab_apply m c b (ix2 r l)
  refine e.trans ((piece_apply _ _ _ _ r l).trans (Eq.trans ?_ (whole_apply _ _ _ _ R C).symm))
  obtain ⟨hx, hw, hsx, hsw⟩ := h b
  have e0 : sxOf m b = Cert.ReferenceIdeal.Run.the (m' (((0 : Dev Cert.ReferenceIdeal.nD) : Thread Cert.ReferenceIdeal.nD Cert.ReferenceIdeal.τ).loc Cert.ReferenceIdeal.main_arg2)) := by
    unfold sxOf; rw [hsx]
  have e1 : swOf m b = Cert.ReferenceIdeal.Run.the (m' (((0 : Dev Cert.ReferenceIdeal.nD) : Thread Cert.ReferenceIdeal.nD Cert.ReferenceIdeal.τ).loc Cert.ReferenceIdeal.main_arg3)) := by
    unfold swOf; rw [hsw]
  have e2 (q : Fin 4096) : xOf m b (ix2 r q) = m' (((0 : Dev Cert.ReferenceIdeal.nD) : Thread Cert.ReferenceIdeal.nD Cert.ReferenceIdeal.τ).loc Cert.ReferenceIdeal.main_arg0) (ix2 R q) := by
    unfold xOf; rw [hx, Layout.block_apply]
    refine congrArg _ (funext fun a => Fin.ext ?_)
    match a with
    | ⟨0, _⟩ => exact hR.symm
    | ⟨1, _⟩ => rfl
  have e3 (q : Fin 4096) : wOf m b k (ix2 q l) = m' (((0 : Dev Cert.ReferenceIdeal.nD) : Thread Cert.ReferenceIdeal.nD Cert.ReferenceIdeal.τ).loc Cert.ReferenceIdeal.main_arg1) (ix2 q C) := by
    unfold wOf; rw [hw]
    refine congrArg _ (funext fun a => Fin.ext ?_)
    match a with
    | ⟨0, _⟩ => rfl
    | ⟨1, _⟩ => show 256 * ((b.val + k.val) % 32) + l.val = C.val; omega
  rw [e0, e1]
  simp only [e2, e3]

/-- A device's result is its block of the whole product. -/
theorem result_value (h : Paired m m') (c : Dev nD) (X : S4096x256.Idx → Elt Ideal .f32)
    (hX : ∀ b j, X ((slabR b).emb j) = outSlab m c b j) :
    X = Layout.block ⟨2, ![4096, 256]⟩ ⟨2, ![4096, 8192]⟩ 1 32 c (Cert.ReferenceIdeal.Run.prodOf (F := Ideal) m') := by
  funext i
  have hi : i ∈ (Finset.univ : Finset (Fin 32)).biUnion (fun k => (slabR k).set) := by rw [slabR_cover]; exact Finset.mem_univ i
  obtain ⟨b, -, hb⟩ := Finset.mem_biUnion.mp hi
  rw [← Rect.map_emb_univ] at hb
  obtain ⟨j, -, rfl⟩ := Finset.mem_map.mp hb
  refine (hX b j).trans ?_
  rw [Layout.block_apply]
  obtain ⟨r, l, rfl⟩ : ∃ (r : Fin 128) (l : Fin 256), j = ix2 r l := ⟨j 0, j 1, eq_ix2 j⟩
  have hr := slabR_emb_row b (ix2 r l)
  have hl := slabR_emb_col b (ix2 r l)
  have hb' : b.val < 32 := b.isLt
  have hc' : c.val < 32 := c.isLt
  have hr' : r.val < 128 := r.isLt
  have hl' : l.val < 256 := l.isLt
  refine (slab_value h c b r l ⟨b.val * 128 + r.val, by omega⟩ ⟨c.val * 256 + l.val, by omega⟩ rfl rfl).trans ?_
  refine congrArg _ (funext fun a => Fin.ext ?_)
  match a with
  | ⟨0, _⟩ => exact (show b.val * 128 + r.val = 128 * b.val + r.val by omega).trans hr.symm
  | ⟨1, _⟩ => exact congrArg (c.val * 256 + ·) hl.symm

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.K.Run
public import proofs.«01_k».proof.Proof.Value.Eq
public import Idealize.ShloMosaic.Adequacy
public import Idealize.ShloMosaic.Init

@[expose] public section

noncomputable section

namespace Cert.Proof

open Idealize.ShloMosaic Idealize.SL.Sem Cert.Kernel

/-- The kernel ends with its arguments unchanged and its counters at zero: read off its run. -/
theorem kernel_frame : Cert.quiescent_Kernel (hKernel := Cert.Kernel.Gen.facts) := fun m g _ =>
  (θ_run _ _ _).mono (fun _ h => ⟨fun c => (h.1 c).2, h.2⟩) (Cert.Kernel.Run.run_main (F := Bits) m g)

/-- The same run over the extended reals. -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Run.run_main (F := Ideal) m g)

/-- The reference ends likewise. -/
theorem reference_frame : Cert.quiescent_ReferenceIdeal (hReferenceIdeal := Cert.ReferenceIdeal.Gen.facts) := fun m ρ _ =>
  Cert.ReferenceIdeal.Gen.frame m ρ

/-- Each device's result is its block of columns of the reference's. -/
theorem values : Cert.algebraic_KernelIdeal_ReferenceIdeal (hKernelIdeal := Cert.KernelIdeal.Gen.facts)
    (hReferenceIdeal := Cert.ReferenceIdeal.Gen.facts) := fun m g m' g' _ hargs =>
  ⟨Cert.ReferenceIdeal.Run.prodOf (F := Ideal) m',
    (θ_run _ _ _).mono (fun _ h c => ⟨Cert.KernelIdeal.Run.result_value hargs c _ (h.1 c).1, (h.1 c).2⟩)
      (Cert.KernelIdeal.Run.run_main (F := Ideal) m g),
    (θ_run _ _ _).mono (fun _ h => ⟨((h 0).1).trans (Cert.ReferenceIdeal.Run.result m'), (h 0).2⟩)
      (Cert.ReferenceIdeal.Value.run_blocks (F := Ideal) m' g')⟩

/-- All five claims. -/
theorem claim : Cert.Claim := ⟨Cert.Kernel.Gen.facts, Cert.KernelIdeal.Gen.facts, Cert.ReferenceIdeal.Gen.facts,
  kernel_frame, ideal_frame, reference_frame, trivial, values⟩

end Cert.Proof

end
